-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128x64 .f32) (main_arg5 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x64 .f32) (main_arg5 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S1 : Shape := ⟨1, ![1]⟩
abbrev S2 : Shape := ⟨1, ![2]⟩
abbrev S1x1 : Shape := ⟨2, ![1, 1]⟩
abbrev S1x128 : Shape := ⟨2, ![1, 128]⟩
abbrev S1x64 : Shape := ⟨2, ![1, 64]⟩
abbrev S10000x64 : Shape := ⟨2, ![10000, 64]⟩
abbrev S200x10000 : Shape := ⟨2, ![200, 10000]⟩
abbrev S400x128 : Shape := ⟨2, ![400, 128]⟩
abbrev S400x64 : Shape := ⟨2, ![400, 64]⟩
abbrev S200x128 : Shape := ⟨2, ![200, 128]⟩
abbrev S200x64 : Shape := ⟨2, ![200, 64]⟩
abbrev S200 : Shape := ⟨1, ![200]⟩
abbrev S200x1 : Shape := ⟨2, ![200, 1]⟩

abbrev nBuf : Space → Nat
  | .hbm => 290
  | .vmem => 15
  | .smem => 0
  | _ => 0

abbrev hbmTy0_0 (i : Nat) : BufTy := match i % 128 with
  | 0 => ⟨S10000x128, .f32⟩
  | 1 => ⟨S10000x10000, .f32⟩
  | 2 => ⟨S128x128, .f32⟩
  | 3 => ⟨S128, .f32⟩
  | 4 => ⟨S128x64, .f32⟩
  | 5 => ⟨S64, .f32⟩
  | 6 => ⟨S_, .i32⟩
  | 7 => ⟨S_, .i32⟩
  | 8 => ⟨S_, .i32⟩
  | 9 => ⟨S_, .i32⟩
  | 10 => ⟨S1, .i32⟩
  | 11 => ⟨S_, .i32⟩
  | 12 => ⟨S_, .i32⟩
  | 13 => ⟨S_, .i32⟩
  | 14 => ⟨S1, .i32⟩
  | 15 => ⟨S2, .i32⟩
  | 16 => ⟨S_, .f32⟩
  | 17 => ⟨S_, .f32⟩
  | 18 => ⟨S_, .f32⟩
  | 19 => ⟨S_, .f32⟩
  | 20 => ⟨S_, .f32⟩
  | 21 => ⟨S1x1, .f32⟩
  | 22 => ⟨S1x1, .f32⟩
  | 23 => ⟨S1, .i32⟩
  | 24 => ⟨S_, .i32⟩
  | 25 => ⟨S1, .i32⟩
  | 26 => ⟨S_, .i32⟩
  | 27 => ⟨S10000x128, .i64⟩
  | 28 => ⟨S10000x128, .i64⟩
  | 29 => ⟨S_, .i64⟩
  | 30 => ⟨S10000x128, .i64⟩
  | 31 => ⟨S10000x128, .i64⟩
  | 32 => ⟨S_, .i64⟩
  | 33 => ⟨S10000x128, .i64⟩
  | 34 => ⟨S10000x128, .i64⟩
  | 35 => ⟨S10000x128, .i64⟩
  | 36 => ⟨S_, .i64⟩
  | 37 => ⟨S10000x128, .i64⟩
  | 38 => ⟨S10000x128, .i64⟩
  | 39 => ⟨S10000x128, .i32⟩
  | 40 => ⟨S10000x128, .i32⟩
  | 41 => ⟨S_, .i32⟩
  | 42 => ⟨S_, .i32⟩
  | 43 => ⟨S_, .i32⟩
  | 44 => ⟨S10000x128, .i32⟩
  | 45 => ⟨S10000x128, .i32⟩
  | 46 => ⟨S10000x128, .i32⟩
  | 47 => ⟨S10000x128, .i32⟩
  | 48 => ⟨S10000x128, .i32⟩
  | 49 => ⟨S_, .i32⟩
  | 50 => ⟨S10000x128, .i32⟩
  | 51 => ⟨S10000x128, .i32⟩
  | 52 => ⟨S_, .i32⟩
  | 53 => ⟨S10000x128, .i32⟩
  | 54 => ⟨S10000x128, .i32⟩
  | 55 => ⟨S10000x128, .i32⟩
  | 56 => ⟨S10000x128, .i32⟩
  | 57 => ⟨S10000x128, .i32⟩
  | 58 => ⟨S_, .i32⟩
  | 59 => ⟨S10000x128, .i32⟩
  | 60 => ⟨S10000x128, .i32⟩
  | 61 => ⟨S_, .i32⟩
  | 62 => ⟨S10000x128, .i32⟩
  | 63 => ⟨S10000x128, .i32⟩
  | 64 => ⟨S10000x128, .i32⟩
  | 65 => ⟨S10000x128, .i32⟩
  | 66 => ⟨S10000x128, .i32⟩
  | 67 => ⟨S_, .i32⟩
  | 68 => ⟨S10000x128, .i32⟩
  | 69 => ⟨S10000x128, .i32⟩
  | 70 => ⟨S_, .i32⟩
  | 71 => ⟨S10000x128, .i32⟩
  | 72 => ⟨S10000x128, .i32⟩
  | 73 => ⟨S10000x128, .i32⟩
  | 74 => ⟨S10000x128, .i32⟩
  | 75 => ⟨S10000x128, .i32⟩
  | 76 => ⟨S_, .i32⟩
  | 77 => ⟨S10000x128, .i32⟩
  | 78 => ⟨S10000x128, .i32⟩
  | 79 => ⟨S_, .i32⟩
  | 80 => ⟨S10000x128, .i32⟩
  | 81 => ⟨S10000x128, .i32⟩
  | 82 => ⟨S10000x128, .i32⟩
  | 83 => ⟨S10000x128, .i32⟩
  | 84 => ⟨S10000x128, .i32⟩
  | 85 => ⟨S10000x128, .i32⟩
  | 86 => ⟨S10000x128, .i32⟩
  | 87 => ⟨S10000x128, .i32⟩
  | 88 => ⟨S_, .i32⟩
  | 89 => ⟨S10000x128, .i32⟩
  | 90 => ⟨S10000x128, .i32⟩
  | 91 => ⟨S10000x128, .i32⟩
  | 92 => ⟨S_, .i32⟩
  | 93 => ⟨S10000x128, .i32⟩
  | 94 => ⟨S10000x128, .i32⟩
  | 95 => ⟨S_, .i32⟩
  | 96 => ⟨S10000x128, .i32⟩
  | 97 => ⟨S10000x128, .i32⟩
  | 98 => ⟨S10000x128, .i32⟩
  | 99 => ⟨S10000x128, .i32⟩
  | 100 => ⟨S10000x128, .i32⟩
  | 101 => ⟨S_, .i32⟩
  | 102 => ⟨S10000x128, .i32⟩
  | 103 => ⟨S10000x128, .i32⟩
  | 104 => ⟨S_, .i32⟩
  | 105 => ⟨S10000x128, .i32⟩
  | 106 => ⟨S10000x128, .i32⟩
  | 107 => ⟨S10000x128, .i32⟩
  | 108 => ⟨S10000x128, .i32⟩
  | 109 => ⟨S10000x128, .i32⟩
  | 110 => ⟨S_, .i32⟩
  | 111 => ⟨S10000x128, .i32⟩
  | 112 => ⟨S10000x128, .i32⟩
  | 113 => ⟨S_, .i32⟩
  | 114 => ⟨S10000x128, .i32⟩
  | 115 => ⟨S10000x128, .i32⟩
  | 116 => ⟨S10000x128, .i32⟩
  | 117 => ⟨S10000x128, .i32⟩
  | 118 => ⟨S10000x128, .i32⟩
  | 119 => ⟨S_, .i32⟩
  | 120 => ⟨S10000x128, .i32⟩
  | 121 => ⟨S10000x128, .i32⟩
  | 122 => ⟨S_, .i32⟩
  | 123 => ⟨S10000x128, .i32⟩
  | 124 => ⟨S10000x128, .i32⟩
  | 125 => ⟨S10000x128, .i32⟩
  | 126 => ⟨S10000x128, .i32⟩
  | 127 => ⟨S10000x128, .i32⟩
  | _ => ⟨S10000x128, .f32⟩

abbrev hbmTy0_1 (i : Nat) : BufTy := match i % 128 with
  | 0 => ⟨S10000x128, .i32⟩
  | 1 => ⟨S10000x128, .i32⟩
  | 2 => ⟨S10000x128, .i32⟩
  | 3 => ⟨S_, .i32⟩
  | 4 => ⟨S10000x128, .i32⟩
  | 5 => ⟨S10000x128, .i32⟩
  | 6 => ⟨S10000x128, .i32⟩
  | 7 => ⟨S_, .i32⟩
  | 8 => ⟨S10000x128, .i32⟩
  | 9 => ⟨S10000x128, .i32⟩
  | 10 => ⟨S_, .i32⟩
  | 11 => ⟨S10000x128, .i32⟩
  | 12 => ⟨S10000x128, .i32⟩
  | 13 => ⟨S10000x128, .i32⟩
  | 14 => ⟨S10000x128, .i32⟩
  | 15 => ⟨S10000x128, .i32⟩
  | 16 => ⟨S_, .i32⟩
  | 17 => ⟨S10000x128, .i32⟩
  | 18 => ⟨S10000x128, .i32⟩
  | 19 => ⟨S_, .i32⟩
  | 20 => ⟨S10000x128, .i32⟩
  | 21 => ⟨S10000x128, .i32⟩
  | 22 => ⟨S10000x128, .i32⟩
  | 23 => ⟨S10000x128, .i32⟩
  | 24 => ⟨S10000x128, .i32⟩
  | 25 => ⟨S_, .i32⟩
  | 26 => ⟨S10000x128, .i32⟩
  | 27 => ⟨S10000x128, .i32⟩
  | 28 => ⟨S_, .i32⟩
  | 29 => ⟨S10000x128, .i32⟩
  | 30 => ⟨S10000x128, .i32⟩
  | 31 => ⟨S10000x128, .i32⟩
  | 32 => ⟨S10000x128, .i32⟩
  | 33 => ⟨S10000x128, .i32⟩
  | 34 => ⟨S_, .i32⟩
  | 35 => ⟨S10000x128, .i32⟩
  | 36 => ⟨S10000x128, .i32⟩
  | 37 => ⟨S_, .i32⟩
  | 38 => ⟨S10000x128, .i32⟩
  | 39 => ⟨S10000x128, .i32⟩
  | 40 => ⟨S10000x128, .i32⟩
  | 41 => ⟨S10000x128, .i32⟩
  | 42 => ⟨S10000x128, .i32⟩
  | 43 => ⟨S10000x128, .i32⟩
  | 44 => ⟨S10000x128, .i32⟩
  | 45 => ⟨S10000x128, .i32⟩
  | 46 => ⟨S_, .i32⟩
  | 47 => ⟨S10000x128, .i32⟩
  | 48 => ⟨S10000x128, .i32⟩
  | 49 => ⟨S10000x128, .i32⟩
  | 50 => ⟨S_, .i32⟩
  | 51 => ⟨S10000x128, .i32⟩
  | 52 => ⟨S10000x128, .i32⟩
  | 53 => ⟨S_, .i32⟩
  | 54 => ⟨S10000x128, .i32⟩
  | 55 => ⟨S10000x128, .i32⟩
  | 56 => ⟨S10000x128, .i32⟩
  | 57 => ⟨S10000x128, .i32⟩
  | 58 => ⟨S10000x128, .i32⟩
  | 59 => ⟨S_, .i32⟩
  | 60 => ⟨S10000x128, .i32⟩
  | 61 => ⟨S10000x128, .i32⟩
  | 62 => ⟨S_, .i32⟩
  | 63 => ⟨S10000x128, .i32⟩
  | 64 => ⟨S10000x128, .i32⟩
  | 65 => ⟨S10000x128, .i32⟩
  | 66 => ⟨S10000x128, .i32⟩
  | 67 => ⟨S10000x128, .i32⟩
  | 68 => ⟨S_, .i32⟩
  | 69 => ⟨S10000x128, .i32⟩
  | 70 => ⟨S10000x128, .i32⟩
  | 71 => ⟨S_, .i32⟩
  | 72 => ⟨S10000x128, .i32⟩
  | 73 => ⟨S10000x128, .i32⟩
  | 74 => ⟨S10000x128, .i32⟩
  | 75 => ⟨S10000x128, .i32⟩
  | 76 => ⟨S10000x128, .i32⟩
  | 77 => ⟨S_, .i32⟩
  | 78 => ⟨S10000x128, .i32⟩
  | 79 => ⟨S10000x128, .i32⟩
  | 80 => ⟨S_, .i32⟩
  | 81 => ⟨S10000x128, .i32⟩
  | 82 => ⟨S10000x128, .i32⟩
  | 83 => ⟨S10000x128, .i32⟩
  | 84 => ⟨S10000x128, .i32⟩
  | 85 => ⟨S10000x128, .i32⟩
  | 86 => ⟨S10000x128, .i32⟩
  | 87 => ⟨S10000x128, .i32⟩
  | 88 => ⟨S10000x128, .i32⟩
  | 89 => ⟨S_, .i32⟩
  | 90 => ⟨S10000x128, .i32⟩
  | 91 => ⟨S10000x128, .i32⟩
  | 92 => ⟨S10000x128, .i32⟩
  | 93 => ⟨S_, .i32⟩
  | 94 => ⟨S10000x128, .i32⟩
  | 95 => ⟨S10000x128, .i32⟩
  | 96 => ⟨S_, .i32⟩
  | 97 => ⟨S10000x128, .i32⟩
  | 98 => ⟨S10000x128, .i32⟩
  | 99 => ⟨S10000x128, .i32⟩
  | 100 => ⟨S10000x128, .i32⟩
  | 101 => ⟨S10000x128, .i32⟩
  | 102 => ⟨S_, .i32⟩
  | 103 => ⟨S10000x128, .i32⟩
  | 104 => ⟨S10000x128, .i32⟩
  | 105 => ⟨S_, .i32⟩
  | 106 => ⟨S10000x128, .i32⟩
  | 107 => ⟨S10000x128, .i32⟩
  | 108 => ⟨S10000x128, .i32⟩
  | 109 => ⟨S10000x128, .i32⟩
  | 110 => ⟨S10000x128, .i32⟩
  | 111 => ⟨S_, .i32⟩
  | 112 => ⟨S10000x128, .i32⟩
  | 113 => ⟨S10000x128, .i32⟩
  | 114 => ⟨S_, .i32⟩
  | 115 => ⟨S10000x128, .i32⟩
  | 116 => ⟨S10000x128, .i32⟩
  | 117 => ⟨S10000x128, .i32⟩
  | 118 => ⟨S10000x128, .i32⟩
  | 119 => ⟨S10000x128, .i32⟩
  | 120 => ⟨S_, .i32⟩
  | 121 => ⟨S10000x128, .i32⟩
  | 122 => ⟨S10000x128, .i32⟩
  | 123 => ⟨S_, .i32⟩
  | 124 => ⟨S10000x128, .i32⟩
  | 125 => ⟨S10000x128, .i32⟩
  | 126 => ⟨S10000x128, .i32⟩
  | 127 => ⟨S10000x128, .i32⟩
  | _ => ⟨S10000x128, .f32⟩

abbrev hbmTy0_2 (i : Nat) : BufTy := match i % 128 with
  | 0 => ⟨S10000x128, .i32⟩
  | 1 => ⟨S10000x128, .i32⟩
  | 2 => ⟨S10000x128, .i32⟩
  | 3 => ⟨S10000x128, .i32⟩
  | 4 => ⟨S_, .i32⟩
  | 5 => ⟨S10000x128, .i32⟩
  | 6 => ⟨S10000x128, .i32⟩
  | 7 => ⟨S10000x128, .i32⟩
  | 8 => ⟨S_, .i32⟩
  | 9 => ⟨S10000x128, .i32⟩
  | 10 => ⟨S10000x128, .i32⟩
  | 11 => ⟨S_, .i32⟩
  | 12 => ⟨S10000x128, .i32⟩
  | 13 => ⟨S10000x128, .i32⟩
  | 14 => ⟨S10000x128, .f32⟩
  | 15 => ⟨S_, .f32⟩
  | 16 => ⟨S10000x128, .f32⟩
  | 17 => ⟨S10000x128, .f32⟩
  | 18 => ⟨S1x1, .f32⟩
  | 19 => ⟨S10000x128, .f32⟩
  | 20 => ⟨S10000x128, .f32⟩
  | 21 => ⟨S10000x128, .f32⟩
  | 22 => ⟨S10000x128, .f32⟩
  | 23 => ⟨S10000x128, .f32⟩
  | 24 => ⟨S10000x128, .f32⟩
  | 25 => ⟨S10000x128, .f32⟩
  | 26 => ⟨S10000x128, .i1⟩
  | 27 => ⟨S10000x128, .f32⟩
  | 28 => ⟨S_, .f32⟩
  | 29 => ⟨S10000x128, .f32⟩
  | 30 => ⟨S10000x128, .f32⟩
  | 31 => ⟨S1x128, .f32⟩
  | 32 => ⟨S1x64, .f32⟩
  | 33 => ⟨S10000x64, .f32⟩
  | _ => ⟨S10000x128, .f32⟩

abbrev hbmTy (i : Nat) : BufTy := match i / 128 with
  | 0 => hbmTy0_0 i
  | 1 => hbmTy0_1 i
  | 2 => hbmTy0_2 i
  | _ => ⟨S10000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S128x128, .f32⟩
  | .local _ .vmem, ⟨2, _⟩ => ⟨S200x10000, .f32⟩
  | .local _ .vmem, ⟨3, _⟩ => ⟨S200x10000, .f32⟩
  | .local _ .vmem, ⟨4, _⟩ => ⟨S200x10000, .f32⟩
  | .local _ .vmem, ⟨5, _⟩ => ⟨S200x10000, .f32⟩
  | .local _ .vmem, ⟨6, _⟩ => ⟨S400x128, .f32⟩
  | .local _ .vmem, ⟨7, _⟩ => ⟨S400x128, .f32⟩
  | .local _ .vmem, ⟨8, _⟩ => ⟨S1x128, .f32⟩
  | .local _ .vmem, ⟨9, _⟩ => ⟨S128x64, .f32⟩
  | .local _ .vmem, ⟨10, _⟩ => ⟨S1x64, .f32⟩
  | .local _ .vmem, ⟨11, _⟩ => ⟨S400x64, .f32⟩
  | .local _ .vmem, ⟨12, _⟩ => ⟨S400x64, .f32⟩
  | .local _ .vmem, ⟨13, _⟩ => ⟨S10000x128, .f32⟩
  | .local _ .vmem, ⟨14, _⟩ => ⟨S10000x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_call0_cst : Ref sig .tc := ⟨.hbm, 17, rfl⟩
abbrev main_call0_cst_0 : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_c : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_call0_c_0 : Ref sig .tc := ⟨.hbm, 32, rfl⟩
abbrev main_call0_call0_v12 : Ref sig .tc := ⟨.hbm, 33, rfl⟩
abbrev main_call0_call0_v13 : Ref sig .tc := ⟨.hbm, 34, rfl⟩
abbrev main_call0_call0_v14 : Ref sig .tc := ⟨.hbm, 35, rfl⟩
abbrev main_call0_call0_c_1 : Ref sig .tc := ⟨.hbm, 36, rfl⟩
abbrev main_call0_call0_v15 : Ref sig .tc := ⟨.hbm, 37, rfl⟩
abbrev main_call0_call0_v16 : Ref sig .tc := ⟨.hbm, 38, rfl⟩
abbrev main_call0_call0_v17 : Ref sig .tc := ⟨.hbm, 39, rfl⟩
abbrev main_call0_call0_v18 : Ref sig .tc := ⟨.hbm, 40, rfl⟩
abbrev main_call0_call0_call0_v0 : Ref sig .tc := ⟨.hbm, 41, rfl⟩
abbrev main_call0_call0_call0_c : Ref sig .tc := ⟨.hbm, 42, rfl⟩
abbrev main_call0_call0_call0_v1 : Ref sig .tc := ⟨.hbm, 43, rfl⟩
abbrev main_call0_call0_call0_v2 : Ref sig .tc := ⟨.hbm, 44, rfl⟩
abbrev main_call0_call0_call0_v3 : Ref sig .tc := ⟨.hbm, 45, rfl⟩
abbrev main_call0_call0_call0_v4 : Ref sig .tc := ⟨.hbm, 46, rfl⟩
abbrev main_call0_call0_call0_v5 : Ref sig .tc := ⟨.hbm, 47, rfl⟩
abbrev main_call0_call0_call0_v6 : Ref sig .tc := ⟨.hbm, 48, rfl⟩
abbrev main_call0_call0_call0_c_0 : Ref sig .tc := ⟨.hbm, 49, rfl⟩
abbrev main_call0_call0_call0_v7 : Ref sig .tc := ⟨.hbm, 50, rfl⟩
abbrev main_call0_call0_call0_v8 : Ref sig .tc := ⟨.hbm, 51, rfl⟩
abbrev main_call0_call0_call0_c_1 : Ref sig .tc := ⟨.hbm, 52, rfl⟩
abbrev main_call0_call0_call0_v9 : Ref sig .tc := ⟨.hbm, 53, rfl⟩
abbrev main_call0_call0_call0_v10 : Ref sig .tc := ⟨.hbm, 54, rfl⟩
abbrev main_call0_call0_call0_v11 : Ref sig .tc := ⟨.hbm, 55, rfl⟩
abbrev main_call0_call0_call0_v12 : Ref sig .tc := ⟨.hbm, 56, rfl⟩
abbrev main_call0_call0_call0_v13 : Ref sig .tc := ⟨.hbm, 57, rfl⟩
abbrev main_call0_call0_call0_c_2 : Ref sig .tc := ⟨.hbm, 58, rfl⟩
abbrev main_call0_call0_call0_v14 : Ref sig .tc := ⟨.hbm, 59, rfl⟩
abbrev main_call0_call0_call0_v15 : Ref sig .tc := ⟨.hbm, 60, rfl⟩
abbrev main_call0_call0_call0_c_3 : Ref sig .tc := ⟨.hbm, 61, rfl⟩
abbrev main_call0_call0_call0_v16 : Ref sig .tc := ⟨.hbm, 62, rfl⟩
abbrev main_call0_call0_call0_v17 : Ref sig .tc := ⟨.hbm, 63, rfl⟩
abbrev main_call0_call0_call0_v18 : Ref sig .tc := ⟨.hbm, 64, rfl⟩
abbrev main_call0_call0_call0_v19 : Ref sig .tc := ⟨.hbm, 65, rfl⟩
abbrev main_call0_call0_call0_v20 : Ref sig .tc := ⟨.hbm, 66, rfl⟩
abbrev main_call0_call0_call0_c_4 : Ref sig .tc := ⟨.hbm, 67, rfl⟩
abbrev main_call0_call0_call0_v21 : Ref sig .tc := ⟨.hbm, 68, rfl⟩
abbrev main_call0_call0_call0_v22 : Ref sig .tc := ⟨.hbm, 69, rfl⟩
abbrev main_call0_call0_call0_c_5 : Ref sig .tc := ⟨.hbm, 70, rfl⟩
abbrev main_call0_call0_call0_v23 : Ref sig .tc := ⟨.hbm, 71, rfl⟩
abbrev main_call0_call0_call0_v24 : Ref sig .tc := ⟨.hbm, 72, rfl⟩
abbrev main_call0_call0_call0_v25 : Ref sig .tc := ⟨.hbm, 73, rfl⟩
abbrev main_call0_call0_call0_v26 : Ref sig .tc := ⟨.hbm, 74, rfl⟩
abbrev main_call0_call0_call0_v27 : Ref sig .tc := ⟨.hbm, 75, rfl⟩
abbrev main_call0_call0_call0_c_6 : Ref sig .tc := ⟨.hbm, 76, rfl⟩
abbrev main_call0_call0_call0_v28 : Ref sig .tc := ⟨.hbm, 77, rfl⟩
abbrev main_call0_call0_call0_v29 : Ref sig .tc := ⟨.hbm, 78, rfl⟩
abbrev main_call0_call0_call0_c_7 : Ref sig .tc := ⟨.hbm, 79, rfl⟩
abbrev main_call0_call0_call0_v30 : Ref sig .tc := ⟨.hbm, 80, rfl⟩
abbrev main_call0_call0_call0_v31 : Ref sig .tc := ⟨.hbm, 81, rfl⟩
abbrev main_call0_call0_call0_v32 : Ref sig .tc := ⟨.hbm, 82, rfl⟩
abbrev main_call0_call0_call0_v33 : Ref sig .tc := ⟨.hbm, 83, rfl⟩
abbrev main_call0_call0_call0_v34 : Ref sig .tc := ⟨.hbm, 84, rfl⟩
abbrev main_call0_call0_call0_v35 : Ref sig .tc := ⟨.hbm, 85, rfl⟩
abbrev main_call0_call0_call0_v36 : Ref sig .tc := ⟨.hbm, 86, rfl⟩
abbrev main_call0_call0_call0_v37 : Ref sig .tc := ⟨.hbm, 87, rfl⟩
abbrev main_call0_call0_call0_c_8 : Ref sig .tc := ⟨.hbm, 88, rfl⟩
abbrev main_call0_call0_call0_v38 : Ref sig .tc := ⟨.hbm, 89, rfl⟩
abbrev main_call0_call0_call0_v39 : Ref sig .tc := ⟨.hbm, 90, rfl⟩
abbrev main_call0_call0_call0_v40 : Ref sig .tc := ⟨.hbm, 91, rfl⟩
abbrev main_call0_call0_call0_c_9 : Ref sig .tc := ⟨.hbm, 92, rfl⟩
abbrev main_call0_call0_call0_v41 : Ref sig .tc := ⟨.hbm, 93, rfl⟩
abbrev main_call0_call0_call0_v42 : Ref sig .tc := ⟨.hbm, 94, rfl⟩
abbrev main_call0_call0_call0_c_10 : Ref sig .tc := ⟨.hbm, 95, rfl⟩
abbrev main_call0_call0_call0_v43 : Ref sig .tc := ⟨.hbm, 96, rfl⟩
abbrev main_call0_call0_call0_v44 : Ref sig .tc := ⟨.hbm, 97, rfl⟩
abbrev main_call0_call0_call0_v45 : Ref sig .tc := ⟨.hbm, 98, rfl⟩
abbrev main_call0_call0_call0_v46 : Ref sig .tc := ⟨.hbm, 99, rfl⟩
abbrev main_call0_call0_call0_v47 : Ref sig .tc := ⟨.hbm, 100, rfl⟩
abbrev main_call0_call0_call0_c_11 : Ref sig .tc := ⟨.hbm, 101, rfl⟩
abbrev main_call0_call0_call0_v48 : Ref sig .tc := ⟨.hbm, 102, rfl⟩
abbrev main_call0_call0_call0_v49 : Ref sig .tc := ⟨.hbm, 103, rfl⟩
abbrev main_call0_call0_call0_c_12 : Ref sig .tc := ⟨.hbm, 104, rfl⟩
abbrev main_call0_call0_call0_v50 : Ref sig .tc := ⟨.hbm, 105, rfl⟩
abbrev main_call0_call0_call0_v51 : Ref sig .tc := ⟨.hbm, 106, rfl⟩
abbrev main_call0_call0_call0_v52 : Ref sig .tc := ⟨.hbm, 107, rfl⟩
abbrev main_call0_call0_call0_v53 : Ref sig .tc := ⟨.hbm, 108, rfl⟩
abbrev main_call0_call0_call0_v54 : Ref sig .tc := ⟨.hbm, 109, rfl⟩
abbrev main_call0_call0_call0_c_13 : Ref sig .tc := ⟨.hbm, 110, rfl⟩
abbrev main_call0_call0_call0_v55 : Ref sig .tc := ⟨.hbm, 111, rfl⟩
abbrev main_call0_call0_call0_v56 : Ref sig .tc := ⟨.hbm, 112, rfl⟩
abbrev main_call0_call0_call0_c_14 : Ref sig .tc := ⟨.hbm, 113, rfl⟩
abbrev main_call0_call0_call0_v57 : Ref sig .tc := ⟨.hbm, 114, rfl⟩
abbrev main_call0_call0_call0_v58 : Ref sig .tc := ⟨.hbm, 115, rfl⟩
abbrev main_call0_call0_call0_v59 : Ref sig .tc := ⟨.hbm, 116, rfl⟩
abbrev main_call0_call0_call0_v60 : Ref sig .tc := ⟨.hbm, 117, rfl⟩
abbrev main_call0_call0_call0_v61 : Ref sig .tc := ⟨.hbm, 118, rfl⟩
abbrev main_call0_call0_call0_c_15 : Ref sig .tc := ⟨.hbm, 119, rfl⟩
abbrev main_call0_call0_call0_v62 : Ref sig .tc := ⟨.hbm, 120, rfl⟩
abbrev main_call0_call0_call0_v63 : Ref sig .tc := ⟨.hbm, 121, rfl⟩
abbrev main_call0_call0_call0_c_16 : Ref sig .tc := ⟨.hbm, 122, rfl⟩
abbrev main_call0_call0_call0_v64 : Ref sig .tc := ⟨.hbm, 123, rfl⟩
abbrev main_call0_call0_call0_v65 : Ref sig .tc := ⟨.hbm, 124, rfl⟩
abbrev main_call0_call0_call0_v66 : Ref sig .tc := ⟨.hbm, 125, rfl⟩
abbrev main_call0_call0_call0_v67 : Ref sig .tc := ⟨.hbm, 126, rfl⟩
abbrev main_call0_call0_call0_v68 : Ref sig .tc := ⟨.hbm, 127, rfl⟩
abbrev main_call0_call0_call0_v69 : Ref sig .tc := ⟨.hbm, 128, rfl⟩
abbrev main_call0_call0_call0_v70 : Ref sig .tc := ⟨.hbm, 129, rfl⟩
abbrev main_call0_call0_call0_v71 : Ref sig .tc := ⟨.hbm, 130, rfl⟩
abbrev main_call0_call0_call0_c_17 : Ref sig .tc := ⟨.hbm, 131, rfl⟩
abbrev main_call0_call0_call0_v72 : Ref sig .tc := ⟨.hbm, 132, rfl⟩
abbrev main_call0_call0_call0_v73 : Ref sig .tc := ⟨.hbm, 133, rfl⟩
abbrev main_call0_call0_call0_v74 : Ref sig .tc := ⟨.hbm, 134, rfl⟩
abbrev main_call0_call0_call0_c_18 : Ref sig .tc := ⟨.hbm, 135, rfl⟩
abbrev main_call0_call0_call0_v75 : Ref sig .tc := ⟨.hbm, 136, rfl⟩
abbrev main_call0_call0_call0_v76 : Ref sig .tc := ⟨.hbm, 137, rfl⟩
abbrev main_call0_call0_call0_c_19 : Ref sig .tc := ⟨.hbm, 138, rfl⟩
abbrev main_call0_call0_call0_v77 : Ref sig .tc := ⟨.hbm, 139, rfl⟩
abbrev main_call0_call0_call0_v78 : Ref sig .tc := ⟨.hbm, 140, rfl⟩
abbrev main_call0_call0_call0_v79 : Ref sig .tc := ⟨.hbm, 141, rfl⟩
abbrev main_call0_call0_call0_v80 : Ref sig .tc := ⟨.hbm, 142, rfl⟩
abbrev main_call0_call0_call0_v81 : Ref sig .tc := ⟨.hbm, 143, rfl⟩
abbrev main_call0_call0_call0_c_20 : Ref sig .tc := ⟨.hbm, 144, rfl⟩
abbrev main_call0_call0_call0_v82 : Ref sig .tc := ⟨.hbm, 145, rfl⟩
abbrev main_call0_call0_call0_v83 : Ref sig .tc := ⟨.hbm, 146, rfl⟩
abbrev main_call0_call0_call0_c_21 : Ref sig .tc := ⟨.hbm, 147, rfl⟩
abbrev main_call0_call0_call0_v84 : Ref sig .tc := ⟨.hbm, 148, rfl⟩
abbrev main_call0_call0_call0_v85 : Ref sig .tc := ⟨.hbm, 149, rfl⟩
abbrev main_call0_call0_call0_v86 : Ref sig .tc := ⟨.hbm, 150, rfl⟩
abbrev main_call0_call0_call0_v87 : Ref sig .tc := ⟨.hbm, 151, rfl⟩
abbrev main_call0_call0_call0_v88 : Ref sig .tc := ⟨.hbm, 152, rfl⟩
abbrev main_call0_call0_call0_c_22 : Ref sig .tc := ⟨.hbm, 153, rfl⟩
abbrev main_call0_call0_call0_v89 : Ref sig .tc := ⟨.hbm, 154, rfl⟩
abbrev main_call0_call0_call0_v90 : Ref sig .tc := ⟨.hbm, 155, rfl⟩
abbrev main_call0_call0_call0_c_23 : Ref sig .tc := ⟨.hbm, 156, rfl⟩
abbrev main_call0_call0_call0_v91 : Ref sig .tc := ⟨.hbm, 157, rfl⟩
abbrev main_call0_call0_call0_v92 : Ref sig .tc := ⟨.hbm, 158, rfl⟩
abbrev main_call0_call0_call0_v93 : Ref sig .tc := ⟨.hbm, 159, rfl⟩
abbrev main_call0_call0_call0_v94 : Ref sig .tc := ⟨.hbm, 160, rfl⟩
abbrev main_call0_call0_call0_v95 : Ref sig .tc := ⟨.hbm, 161, rfl⟩
abbrev main_call0_call0_call0_c_24 : Ref sig .tc := ⟨.hbm, 162, rfl⟩
abbrev main_call0_call0_call0_v96 : Ref sig .tc := ⟨.hbm, 163, rfl⟩
abbrev main_call0_call0_call0_v97 : Ref sig .tc := ⟨.hbm, 164, rfl⟩
abbrev main_call0_call0_call0_c_25 : Ref sig .tc := ⟨.hbm, 165, rfl⟩
abbrev main_call0_call0_call0_v98 : Ref sig .tc := ⟨.hbm, 166, rfl⟩
abbrev main_call0_call0_call0_v99 : Ref sig .tc := ⟨.hbm, 167, rfl⟩
abbrev main_call0_call0_call0_v100 : Ref sig .tc := ⟨.hbm, 168, rfl⟩
abbrev main_call0_call0_call0_v101 : Ref sig .tc := ⟨.hbm, 169, rfl⟩
abbrev main_call0_call0_call0_v102 : Ref sig .tc := ⟨.hbm, 170, rfl⟩
abbrev main_call0_call0_call0_v103 : Ref sig .tc := ⟨.hbm, 171, rfl⟩
abbrev main_call0_call0_call0_v104 : Ref sig .tc := ⟨.hbm, 172, rfl⟩
abbrev main_call0_call0_call0_v105 : Ref sig .tc := ⟨.hbm, 173, rfl⟩
abbrev main_call0_call0_call0_c_26 : Ref sig .tc := ⟨.hbm, 174, rfl⟩
abbrev main_call0_call0_call0_v106 : Ref sig .tc := ⟨.hbm, 175, rfl⟩
abbrev main_call0_call0_call0_v107 : Ref sig .tc := ⟨.hbm, 176, rfl⟩
abbrev main_call0_call0_call0_v108 : Ref sig .tc := ⟨.hbm, 177, rfl⟩
abbrev main_call0_call0_call0_c_27 : Ref sig .tc := ⟨.hbm, 178, rfl⟩
abbrev main_call0_call0_call0_v109 : Ref sig .tc := ⟨.hbm, 179, rfl⟩
abbrev main_call0_call0_call0_v110 : Ref sig .tc := ⟨.hbm, 180, rfl⟩
abbrev main_call0_call0_call0_c_28 : Ref sig .tc := ⟨.hbm, 181, rfl⟩
abbrev main_call0_call0_call0_v111 : Ref sig .tc := ⟨.hbm, 182, rfl⟩
abbrev main_call0_call0_call0_v112 : Ref sig .tc := ⟨.hbm, 183, rfl⟩
abbrev main_call0_call0_call0_v113 : Ref sig .tc := ⟨.hbm, 184, rfl⟩
abbrev main_call0_call0_call0_v114 : Ref sig .tc := ⟨.hbm, 185, rfl⟩
abbrev main_call0_call0_call0_v115 : Ref sig .tc := ⟨.hbm, 186, rfl⟩
abbrev main_call0_call0_call0_c_29 : Ref sig .tc := ⟨.hbm, 187, rfl⟩
abbrev main_call0_call0_call0_v116 : Ref sig .tc := ⟨.hbm, 188, rfl⟩
abbrev main_call0_call0_call0_v117 : Ref sig .tc := ⟨.hbm, 189, rfl⟩
abbrev main_call0_call0_call0_c_30 : Ref sig .tc := ⟨.hbm, 190, rfl⟩
abbrev main_call0_call0_call0_v118 : Ref sig .tc := ⟨.hbm, 191, rfl⟩
abbrev main_call0_call0_call0_v119 : Ref sig .tc := ⟨.hbm, 192, rfl⟩
abbrev main_call0_call0_call0_v120 : Ref sig .tc := ⟨.hbm, 193, rfl⟩
abbrev main_call0_call0_call0_v121 : Ref sig .tc := ⟨.hbm, 194, rfl⟩
abbrev main_call0_call0_call0_v122 : Ref sig .tc := ⟨.hbm, 195, rfl⟩
abbrev main_call0_call0_call0_c_31 : Ref sig .tc := ⟨.hbm, 196, rfl⟩
abbrev main_call0_call0_call0_v123 : Ref sig .tc := ⟨.hbm, 197, rfl⟩
abbrev main_call0_call0_call0_v124 : Ref sig .tc := ⟨.hbm, 198, rfl⟩
abbrev main_call0_call0_call0_c_32 : Ref sig .tc := ⟨.hbm, 199, rfl⟩
abbrev main_call0_call0_call0_v125 : Ref sig .tc := ⟨.hbm, 200, rfl⟩
abbrev main_call0_call0_call0_v126 : Ref sig .tc := ⟨.hbm, 201, rfl⟩
abbrev main_call0_call0_call0_v127 : Ref sig .tc := ⟨.hbm, 202, rfl⟩
abbrev main_call0_call0_call0_v128 : Ref sig .tc := ⟨.hbm, 203, rfl⟩
abbrev main_call0_call0_call0_v129 : Ref sig .tc := ⟨.hbm, 204, rfl⟩
abbrev main_call0_call0_call0_c_33 : Ref sig .tc := ⟨.hbm, 205, rfl⟩
abbrev main_call0_call0_call0_v130 : Ref sig .tc := ⟨.hbm, 206, rfl⟩
abbrev main_call0_call0_call0_v131 : Ref sig .tc := ⟨.hbm, 207, rfl⟩
abbrev main_call0_call0_call0_c_34 : Ref sig .tc := ⟨.hbm, 208, rfl⟩
abbrev main_call0_call0_call0_v132 : Ref sig .tc := ⟨.hbm, 209, rfl⟩
abbrev main_call0_call0_call0_v133 : Ref sig .tc := ⟨.hbm, 210, rfl⟩
abbrev main_call0_call0_call0_v134 : Ref sig .tc := ⟨.hbm, 211, rfl⟩
abbrev main_call0_call0_call0_v135 : Ref sig .tc := ⟨.hbm, 212, rfl⟩
abbrev main_call0_call0_call0_v136 : Ref sig .tc := ⟨.hbm, 213, rfl⟩
abbrev main_call0_call0_call0_v137 : Ref sig .tc := ⟨.hbm, 214, rfl⟩
abbrev main_call0_call0_call0_v138 : Ref sig .tc := ⟨.hbm, 215, rfl⟩
abbrev main_call0_call0_call0_v139 : Ref sig .tc := ⟨.hbm, 216, rfl⟩
abbrev main_call0_call0_call0_c_35 : Ref sig .tc := ⟨.hbm, 217, rfl⟩
abbrev main_call0_call0_call0_v140 : Ref sig .tc := ⟨.hbm, 218, rfl⟩
abbrev main_call0_call0_call0_v141 : Ref sig .tc := ⟨.hbm, 219, rfl⟩
abbrev main_call0_call0_call0_v142 : Ref sig .tc := ⟨.hbm, 220, rfl⟩
abbrev main_call0_call0_call0_c_36 : Ref sig .tc := ⟨.hbm, 221, rfl⟩
abbrev main_call0_call0_call0_v143 : Ref sig .tc := ⟨.hbm, 222, rfl⟩
abbrev main_call0_call0_call0_v144 : Ref sig .tc := ⟨.hbm, 223, rfl⟩
abbrev main_call0_call0_call0_c_37 : Ref sig .tc := ⟨.hbm, 224, rfl⟩
abbrev main_call0_call0_call0_v145 : Ref sig .tc := ⟨.hbm, 225, rfl⟩
abbrev main_call0_call0_call0_v146 : Ref sig .tc := ⟨.hbm, 226, rfl⟩
abbrev main_call0_call0_call0_v147 : Ref sig .tc := ⟨.hbm, 227, rfl⟩
abbrev main_call0_call0_call0_v148 : Ref sig .tc := ⟨.hbm, 228, rfl⟩
abbrev main_call0_call0_call0_v149 : Ref sig .tc := ⟨.hbm, 229, rfl⟩
abbrev main_call0_call0_call0_c_38 : Ref sig .tc := ⟨.hbm, 230, rfl⟩
abbrev main_call0_call0_call0_v150 : Ref sig .tc := ⟨.hbm, 231, rfl⟩
abbrev main_call0_call0_call0_v151 : Ref sig .tc := ⟨.hbm, 232, rfl⟩
abbrev main_call0_call0_call0_c_39 : Ref sig .tc := ⟨.hbm, 233, rfl⟩
abbrev main_call0_call0_call0_v152 : Ref sig .tc := ⟨.hbm, 234, rfl⟩
abbrev main_call0_call0_call0_v153 : Ref sig .tc := ⟨.hbm, 235, rfl⟩
abbrev main_call0_call0_call0_v154 : Ref sig .tc := ⟨.hbm, 236, rfl⟩
abbrev main_call0_call0_call0_v155 : Ref sig .tc := ⟨.hbm, 237, rfl⟩
abbrev main_call0_call0_call0_v156 : Ref sig .tc := ⟨.hbm, 238, rfl⟩
abbrev main_call0_call0_call0_c_40 : Ref sig .tc := ⟨.hbm, 239, rfl⟩
abbrev main_call0_call0_call0_v157 : Ref sig .tc := ⟨.hbm, 240, rfl⟩
abbrev main_call0_call0_call0_v158 : Ref sig .tc := ⟨.hbm, 241, rfl⟩
abbrev main_call0_call0_call0_c_41 : Ref sig .tc := ⟨.hbm, 242, rfl⟩
abbrev main_call0_call0_call0_v159 : Ref sig .tc := ⟨.hbm, 243, rfl⟩
abbrev main_call0_call0_call0_v160 : Ref sig .tc := ⟨.hbm, 244, rfl⟩
abbrev main_call0_call0_call0_v161 : Ref sig .tc := ⟨.hbm, 245, rfl⟩
abbrev main_call0_call0_call0_v162 : Ref sig .tc := ⟨.hbm, 246, rfl⟩
abbrev main_call0_call0_call0_v163 : Ref sig .tc := ⟨.hbm, 247, rfl⟩
abbrev main_call0_call0_call0_c_42 : Ref sig .tc := ⟨.hbm, 248, rfl⟩
abbrev main_call0_call0_call0_v164 : Ref sig .tc := ⟨.hbm, 249, rfl⟩
abbrev main_call0_call0_call0_v165 : Ref sig .tc := ⟨.hbm, 250, rfl⟩
abbrev main_call0_call0_call0_c_43 : Ref sig .tc := ⟨.hbm, 251, rfl⟩
abbrev main_call0_call0_call0_v166 : Ref sig .tc := ⟨.hbm, 252, rfl⟩
abbrev main_call0_call0_call0_v167 : Ref sig .tc := ⟨.hbm, 253, rfl⟩
abbrev main_call0_call0_call0_v168 : Ref sig .tc := ⟨.hbm, 254, rfl⟩
abbrev main_call0_call0_call0_v169 : Ref sig .tc := ⟨.hbm, 255, rfl⟩
abbrev main_call0_call0_call0_v170 : Ref sig .tc := ⟨.hbm, 256, rfl⟩
abbrev main_call0_call0_v19_0 : Ref sig .tc := ⟨.hbm, 257, rfl⟩
abbrev main_call0_call0_call0_v172 : Ref sig .tc := ⟨.hbm, 258, rfl⟩
abbrev main_call0_call0_call0_v173 : Ref sig .tc := ⟨.hbm, 259, rfl⟩
abbrev main_call0_call0_call0_c_44 : Ref sig .tc := ⟨.hbm, 260, rfl⟩
abbrev main_call0_call0_call0_v174 : Ref sig .tc := ⟨.hbm, 261, rfl⟩
abbrev main_call0_call0_v19_1 : Ref sig .tc := ⟨.hbm, 262, rfl⟩
abbrev main_call0_call0_v20 : Ref sig .tc := ⟨.hbm, 263, rfl⟩
abbrev main_call0_call0_c_2 : Ref sig .tc := ⟨.hbm, 264, rfl⟩
abbrev main_call0_call0_v21 : Ref sig .tc := ⟨.hbm, 265, rfl⟩
abbrev main_call0_call0_v22 : Ref sig .tc := ⟨.hbm, 266, rfl⟩
abbrev main_call0_call0_c_3 : Ref sig .tc := ⟨.hbm, 267, rfl⟩
abbrev main_call0_call0_v23 : Ref sig .tc := ⟨.hbm, 268, rfl⟩
abbrev main_call0_call0_v24 : Ref sig .tc := ⟨.hbm, 269, rfl⟩
abbrev main_call0_call0_v25 : Ref sig .tc := ⟨.hbm, 270, rfl⟩
abbrev main_call0_call0_cst : Ref sig .tc := ⟨.hbm, 271, rfl⟩
abbrev main_call0_call0_v26 : Ref sig .tc := ⟨.hbm, 272, rfl⟩
abbrev main_call0_call0_v27 : Ref sig .tc := ⟨.hbm, 273, rfl⟩
abbrev main_call0_call0_v28 : Ref sig .tc := ⟨.hbm, 274, rfl⟩
abbrev main_call0_call0_v29 : Ref sig .tc := ⟨.hbm, 275, rfl⟩
abbrev main_call0_call0_v30 : Ref sig .tc := ⟨.hbm, 276, rfl⟩
abbrev main_call0_call0_v31 : Ref sig .tc := ⟨.hbm, 277, rfl⟩
abbrev main_call0_call0_v32 : Ref sig .tc := ⟨.hbm, 278, rfl⟩
abbrev main_call0_call0_v33 : Ref sig .tc := ⟨.hbm, 279, rfl⟩
abbrev main_call0_v0 : Ref sig .tc := ⟨.hbm, 280, rfl⟩
abbrev main_call0_v1 : Ref sig .tc := ⟨.hbm, 281, rfl⟩
abbrev main_v7 : Ref sig .tc := ⟨.hbm, 282, rfl⟩
abbrev main_v8 : Ref sig .tc := ⟨.hbm, 283, rfl⟩
abbrev main_cst_2 : Ref sig .tc := ⟨.hbm, 284, rfl⟩
abbrev main_v9 : Ref sig .tc := ⟨.hbm, 285, rfl⟩
abbrev main_v10 : Ref sig .tc := ⟨.hbm, 286, rfl⟩
abbrev main_v11 : Ref sig .tc := ⟨.hbm, 287, rfl⟩
abbrev main_v12 : Ref sig .tc := ⟨.hbm, 288, rfl⟩
abbrev main_v13 : Ref sig .tc := ⟨.hbm, 289, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c25_i32 : BitVec 32 := 25#32
  let v3 : BitVec 1 := Scalar.cmpi .slt arg0 c25_i32
  let v4 : BitVec 32 := Scalar.extui v3
  let c0_i32_1 : BitVec 32 := 0#32
  let v5 : BitVec 1 := Scalar.cmpi .ne v4 c0_i32_1
  v5

def k0_off1 (i : grid0.Coords) : Fin 2 → Nat :=
  let arg0 : BitVec 32 := BitVec.ofNat 32 (i 0).val
  let c400_i32 : BitVec 32 := 400#32
  let v31 : BitVec 32 := Scalar.muli arg0 c400_i32
  let v32 : Index := Scalar.indexCast v31
  let c0_22 : Index := 0#32
  ![v32.toNat, 0]
def k0_off2 (i : grid0.Coords) : Fin 2 → Nat :=
  let arg0 : BitVec 32 := BitVec.ofNat 32 (i 0).val
  let c400_i32_26 : BitVec 32 := 400#32
  let v38 : BitVec 32 := Scalar.muli arg0 c400_i32_26
  let c200_i32 : BitVec 32 := 200#32
  let v39 : BitVec 32 := Scalar.addi v38 c200_i32
  let v40 : Index := Scalar.indexCast v39
  let c0_27 : Index := 0#32
  ![v40.toNat, 0]
def k0_cond3 (i : grid0.Coords) : BitVec 1 :=
  let arg0 : BitVec 32 := BitVec.ofNat 32 (i 0).val
  let c25_i32_2 : BitVec 32 := 25#32
  let v6 : BitVec 1 := Scalar.cmpi .sge arg0 c25_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c25_i32 : BitVec 32 := 25#32
  let c0_i32 : BitVec 32 := 0#32
  let v0 : BitVec 1 := Scalar.cmpi .eq c25_i32 c0_i32
  let c1_i32 : BitVec 32 := 1#32
  let v1 : BitVec 32 := Scalar.select v0 c1_i32 c25_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32 : BitVec 32 := 2#32
  let v10 : BitVec 32 := Scalar.muli c2_i32 v9
  let c0_i32_3 : BitVec 32 := 0#32
  let c0_i32_4 : BitVec 32 := 0#32
  ![v10.toNat, c0_i32_3.toNat]

def cc0_transform_3 (i : grid0.Coords) : Fin 2 → Nat :=
  let arg0 : BitVec 32 := BitVec.ofNat 32 (i 0).val
  let c25_i32 : BitVec 32 := 25#32
  let c0_i32 : BitVec 32 := 0#32
  let v0 : BitVec 1 := Scalar.cmpi .eq c25_i32 c0_i32
  let c1_i32 : BitVec 32 := 1#32
  let v1 : BitVec 32 := Scalar.select v0 c1_i32 c25_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32 : BitVec 32 := 2#32
  let v10 : BitVec 32 := Scalar.muli c2_i32 v9
  let c1_i32_3 : BitVec 32 := 1#32
  let v11 : BitVec 32 := Scalar.addi v10 c1_i32_3
  let c0_i32_4 : BitVec 32 := 0#32
  let c0_i32_5 : BitVec 32 := 0#32
  ![v11.toNat, c0_i32_4.toNat]

def cc0_transform_4 (i : grid0.Coords) : Fin 2 → Nat :=
  let arg0 : BitVec 32 := BitVec.ofNat 32 (i 0).val
  let c24_i32 : BitVec 32 := 24#32
  let v0 : BitVec 32 := Scalar.minsi arg0 c24_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c25_i32 : BitVec 32 := 25#32
  let v0 : BitVec 1 := Scalar.cmpi .slt arg0 c25_i32
  let c25_i32_0 : BitVec 32 := 25#32
  let v1 : BitVec 32 := Scalar.subi arg0 c25_i32_0
  let c0_i32 : BitVec 32 := 0#32
  let v2 : BitVec 32 := Scalar.select v0 c0_i32 v1
  let c0_i32_1 : BitVec 32 := 0#32
  let c0_i32_2 : BitVec 32 := 0#32
  ![v2.toNat, c0_i32_1.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S200x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S400x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S_ : Shape := ⟨0, ![]⟩
abbrev S1 : Shape := ⟨1, ![1]⟩
abbrev S2 : Shape := ⟨1, ![2]⟩
abbrev S1x1 : Shape := ⟨2, ![1, 1]⟩
abbrev S10000x64 : Shape := ⟨2, ![10000, 64]⟩
abbrev S1x64 : Shape := ⟨2, ![1, 64]⟩
abbrev S10000 : Shape := ⟨1, ![10000]⟩
abbrev S10000x1 : Shape := ⟨2, ![10000, 1]⟩

abbrev nBuf : Space → Nat
  | .hbm => 315
  | .vmem => 0
  | .smem => 0
  | _ => 0

abbrev hbmTy0_0 (i : Nat) : BufTy := match i % 128 with
  | 0 => ⟨S10000x128, .f32⟩
  | 1 => ⟨S10000x10000, .f32⟩
  | 2 => ⟨S128x128, .f32⟩
  | 3 => ⟨S128, .f32⟩
  | 4 => ⟨S128x64, .f32⟩
  | 5 => ⟨S64, .f32⟩
  | 6 => ⟨S10000x128, .f32⟩
  | 7 => ⟨S10000x128, .f32⟩
  | 8 => ⟨S1x128, .f32⟩
  | 9 => ⟨S10000x128, .f32⟩
  | 10 => ⟨S10000x128, .f32⟩
  | 11 => ⟨S_, .i32⟩
  | 12 => ⟨S_, .i32⟩
  | 13 => ⟨S_, .i32⟩
  | 14 => ⟨S_, .i32⟩
  | 15 => ⟨S1, .i32⟩
  | 16 => ⟨S_, .i32⟩
  | 17 => ⟨S_, .i32⟩
  | 18 => ⟨S_, .i32⟩
  | 19 => ⟨S1, .i32⟩
  | 20 => ⟨S2, .i32⟩
  | 21 => ⟨S_, .f32⟩
  | 22 => ⟨S_, .f32⟩
  | 23 => ⟨S_, .f32⟩
  | 24 => ⟨S_, .f32⟩
  | 25 => ⟨S_, .f32⟩
  | 26 => ⟨S1x1, .f32⟩
  | 27 => ⟨S1x1, .f32⟩
  | 28 => ⟨S1, .i32⟩
  | 29 => ⟨S_, .i32⟩
  | 30 => ⟨S1, .i32⟩
  | 31 => ⟨S_, .i32⟩
  | 32 => ⟨S10000x128, .i64⟩
  | 33 => ⟨S10000x128, .i64⟩
  | 34 => ⟨S_, .i64⟩
  | 35 => ⟨S10000x128, .i64⟩
  | 36 => ⟨S10000x128, .i64⟩
  | 37 => ⟨S_, .i64⟩
  | 38 => ⟨S10000x128, .i64⟩
  | 39 => ⟨S10000x128, .i64⟩
  | 40 => ⟨S10000x128, .i64⟩
  | 41 => ⟨S_, .i64⟩
  | 42 => ⟨S10000x128, .i64⟩
  | 43 => ⟨S10000x128, .i64⟩
  | 44 => ⟨S10000x128, .i32⟩
  | 45 => ⟨S10000x128, .i32⟩
  | 46 => ⟨S_, .i32⟩
  | 47 => ⟨S_, .i32⟩
  | 48 => ⟨S_, .i32⟩
  | 49 => ⟨S10000x128, .i32⟩
  | 50 => ⟨S10000x128, .i32⟩
  | 51 => ⟨S10000x128, .i32⟩
  | 52 => ⟨S10000x128, .i32⟩
  | 53 => ⟨S10000x128, .i32⟩
  | 54 => ⟨S_, .i32⟩
  | 55 => ⟨S10000x128, .i32⟩
  | 56 => ⟨S10000x128, .i32⟩
  | 57 => ⟨S_, .i32⟩
  | 58 => ⟨S10000x128, .i32⟩
  | 59 => ⟨S10000x128, .i32⟩
  | 60 => ⟨S10000x128, .i32⟩
  | 61 => ⟨S10000x128, .i32⟩
  | 62 => ⟨S10000x128, .i32⟩
  | 63 => ⟨S_, .i32⟩
  | 64 => ⟨S10000x128, .i32⟩
  | 65 => ⟨S10000x128, .i32⟩
  | 66 => ⟨S_, .i32⟩
  | 67 => ⟨S10000x128, .i32⟩
  | 68 => ⟨S10000x128, .i32⟩
  | 69 => ⟨S10000x128, .i32⟩
  | 70 => ⟨S10000x128, .i32⟩
  | 71 => ⟨S10000x128, .i32⟩
  | 72 => ⟨S_, .i32⟩
  | 73 => ⟨S10000x128, .i32⟩
  | 74 => ⟨S10000x128, .i32⟩
  | 75 => ⟨S_, .i32⟩
  | 76 => ⟨S10000x128, .i32⟩
  | 77 => ⟨S10000x128, .i32⟩
  | 78 => ⟨S10000x128, .i32⟩
  | 79 => ⟨S10000x128, .i32⟩
  | 80 => ⟨S10000x128, .i32⟩
  | 81 => ⟨S_, .i32⟩
  | 82 => ⟨S10000x128, .i32⟩
  | 83 => ⟨S10000x128, .i32⟩
  | 84 => ⟨S_, .i32⟩
  | 85 => ⟨S10000x128, .i32⟩
  | 86 => ⟨S10000x128, .i32⟩
  | 87 => ⟨S10000x128, .i32⟩
  | 88 => ⟨S10000x128, .i32⟩
  | 89 => ⟨S10000x128, .i32⟩
  | 90 => ⟨S10000x128, .i32⟩
  | 91 => ⟨S10000x128, .i32⟩
  | 92 => ⟨S10000x128, .i32⟩
  | 93 => ⟨S_, .i32⟩
  | 94 => ⟨S10000x128, .i32⟩
  | 95 => ⟨S10000x128, .i32⟩
  | 96 => ⟨S10000x128, .i32⟩
  | 97 => ⟨S_, .i32⟩
  | 98 => ⟨S10000x128, .i32⟩
  | 99 => ⟨S10000x128, .i32⟩
  | 100 => ⟨S_, .i32⟩
  | 101 => ⟨S10000x128, .i32⟩
  | 102 => ⟨S10000x128, .i32⟩
  | 103 => ⟨S10000x128, .i32⟩
  | 104 => ⟨S10000x128, .i32⟩
  | 105 => ⟨S10000x128, .i32⟩
  | 106 => ⟨S_, .i32⟩
  | 107 => ⟨S10000x128, .i32⟩
  | 108 => ⟨S10000x128, .i32⟩
  | 109 => ⟨S_, .i32⟩
  | 110 => ⟨S10000x128, .i32⟩
  | 111 => ⟨S10000x128, .i32⟩
  | 112 => ⟨S10000x128, .i32⟩
  | 113 => ⟨S10000x128, .i32⟩
  | 114 => ⟨S10000x128, .i32⟩
  | 115 => ⟨S_, .i32⟩
  | 116 => ⟨S10000x128, .i32⟩
  | 117 => ⟨S10000x128, .i32⟩
  | 118 => ⟨S_, .i32⟩
  | 119 => ⟨S10000x128, .i32⟩
  | 120 => ⟨S10000x128, .i32⟩
  | 121 => ⟨S10000x128, .i32⟩
  | 122 => ⟨S10000x128, .i32⟩
  | 123 => ⟨S10000x128, .i32⟩
  | 124 => ⟨S_, .i32⟩
  | 125 => ⟨S10000x128, .i32⟩
  | 126 => ⟨S10000x128, .i32⟩
  | 127 => ⟨S_, .i32⟩
  | _ => ⟨S10000x128, .f32⟩

abbrev hbmTy0_1 (i : Nat) : BufTy := match i % 128 with
  | 0 => ⟨S10000x128, .i32⟩
  | 1 => ⟨S10000x128, .i32⟩
  | 2 => ⟨S10000x128, .i32⟩
  | 3 => ⟨S10000x128, .i32⟩
  | 4 => ⟨S10000x128, .i32⟩
  | 5 => ⟨S10000x128, .i32⟩
  | 6 => ⟨S10000x128, .i32⟩
  | 7 => ⟨S10000x128, .i32⟩
  | 8 => ⟨S_, .i32⟩
  | 9 => ⟨S10000x128, .i32⟩
  | 10 => ⟨S10000x128, .i32⟩
  | 11 => ⟨S10000x128, .i32⟩
  | 12 => ⟨S_, .i32⟩
  | 13 => ⟨S10000x128, .i32⟩
  | 14 => ⟨S10000x128, .i32⟩
  | 15 => ⟨S_, .i32⟩
  | 16 => ⟨S10000x128, .i32⟩
  | 17 => ⟨S10000x128, .i32⟩
  | 18 => ⟨S10000x128, .i32⟩
  | 19 => ⟨S10000x128, .i32⟩
  | 20 => ⟨S10000x128, .i32⟩
  | 21 => ⟨S_, .i32⟩
  | 22 => ⟨S10000x128, .i32⟩
  | 23 => ⟨S10000x128, .i32⟩
  | 24 => ⟨S_, .i32⟩
  | 25 => ⟨S10000x128, .i32⟩
  | 26 => ⟨S10000x128, .i32⟩
  | 27 => ⟨S10000x128, .i32⟩
  | 28 => ⟨S10000x128, .i32⟩
  | 29 => ⟨S10000x128, .i32⟩
  | 30 => ⟨S_, .i32⟩
  | 31 => ⟨S10000x128, .i32⟩
  | 32 => ⟨S10000x128, .i32⟩
  | 33 => ⟨S_, .i32⟩
  | 34 => ⟨S10000x128, .i32⟩
  | 35 => ⟨S10000x128, .i32⟩
  | 36 => ⟨S10000x128, .i32⟩
  | 37 => ⟨S10000x128, .i32⟩
  | 38 => ⟨S10000x128, .i32⟩
  | 39 => ⟨S_, .i32⟩
  | 40 => ⟨S10000x128, .i32⟩
  | 41 => ⟨S10000x128, .i32⟩
  | 42 => ⟨S_, .i32⟩
  | 43 => ⟨S10000x128, .i32⟩
  | 44 => ⟨S10000x128, .i32⟩
  | 45 => ⟨S10000x128, .i32⟩
  | 46 => ⟨S10000x128, .i32⟩
  | 47 => ⟨S10000x128, .i32⟩
  | 48 => ⟨S10000x128, .i32⟩
  | 49 => ⟨S10000x128, .i32⟩
  | 50 => ⟨S10000x128, .i32⟩
  | 51 => ⟨S_, .i32⟩
  | 52 => ⟨S10000x128, .i32⟩
  | 53 => ⟨S10000x128, .i32⟩
  | 54 => ⟨S10000x128, .i32⟩
  | 55 => ⟨S_, .i32⟩
  | 56 => ⟨S10000x128, .i32⟩
  | 57 => ⟨S10000x128, .i32⟩
  | 58 => ⟨S_, .i32⟩
  | 59 => ⟨S10000x128, .i32⟩
  | 60 => ⟨S10000x128, .i32⟩
  | 61 => ⟨S10000x128, .i32⟩
  | 62 => ⟨S10000x128, .i32⟩
  | 63 => ⟨S10000x128, .i32⟩
  | 64 => ⟨S_, .i32⟩
  | 65 => ⟨S10000x128, .i32⟩
  | 66 => ⟨S10000x128, .i32⟩
  | 67 => ⟨S_, .i32⟩
  | 68 => ⟨S10000x128, .i32⟩
  | 69 => ⟨S10000x128, .i32⟩
  | 70 => ⟨S10000x128, .i32⟩
  | 71 => ⟨S10000x128, .i32⟩
  | 72 => ⟨S10000x128, .i32⟩
  | 73 => ⟨S_, .i32⟩
  | 74 => ⟨S10000x128, .i32⟩
  | 75 => ⟨S10000x128, .i32⟩
  | 76 => ⟨S_, .i32⟩
  | 77 => ⟨S10000x128, .i32⟩
  | 78 => ⟨S10000x128, .i32⟩
  | 79 => ⟨S10000x128, .i32⟩
  | 80 => ⟨S10000x128, .i32⟩
  | 81 => ⟨S10000x128, .i32⟩
  | 82 => ⟨S_, .i32⟩
  | 83 => ⟨S10000x128, .i32⟩
  | 84 => ⟨S10000x128, .i32⟩
  | 85 => ⟨S_, .i32⟩
  | 86 => ⟨S10000x128, .i32⟩
  | 87 => ⟨S10000x128, .i32⟩
  | 88 => ⟨S10000x128, .i32⟩
  | 89 => ⟨S10000x128, .i32⟩
  | 90 => ⟨S10000x128, .i32⟩
  | 91 => ⟨S10000x128, .i32⟩
  | 92 => ⟨S10000x128, .i32⟩
  | 93 => ⟨S10000x128, .i32⟩
  | 94 => ⟨S_, .i32⟩
  | 95 => ⟨S10000x128, .i32⟩
  | 96 => ⟨S10000x128, .i32⟩
  | 97 => ⟨S10000x128, .i32⟩
  | 98 => ⟨S_, .i32⟩
  | 99 => ⟨S10000x128, .i32⟩
  | 100 => ⟨S10000x128, .i32⟩
  | 101 => ⟨S_, .i32⟩
  | 102 => ⟨S10000x128, .i32⟩
  | 103 => ⟨S10000x128, .i32⟩
  | 104 => ⟨S10000x128, .i32⟩
  | 105 => ⟨S10000x128, .i32⟩
  | 106 => ⟨S10000x128, .i32⟩
  | 107 => ⟨S_, .i32⟩
  | 108 => ⟨S10000x128, .i32⟩
  | 109 => ⟨S10000x128, .i32⟩
  | 110 => ⟨S_, .i32⟩
  | 111 => ⟨S10000x128, .i32⟩
  | 112 => ⟨S10000x128, .i32⟩
  | 113 => ⟨S10000x128, .i32⟩
  | 114 => ⟨S10000x128, .i32⟩
  | 115 => ⟨S10000x128, .i32⟩
  | 116 => ⟨S_, .i32⟩
  | 117 => ⟨S10000x128, .i32⟩
  | 118 => ⟨S10000x128, .i32⟩
  | 119 => ⟨S_, .i32⟩
  | 120 => ⟨S10000x128, .i32⟩
  | 121 => ⟨S10000x128, .i32⟩
  | 122 => ⟨S10000x128, .i32⟩
  | 123 => ⟨S10000x128, .i32⟩
  | 124 => ⟨S10000x128, .i32⟩
  | 125 => ⟨S_, .i32⟩
  | 126 => ⟨S10000x128, .i32⟩
  | 127 => ⟨S10000x128, .i32⟩
  | _ => ⟨S10000x128, .f32⟩

abbrev hbmTy0_2 (i : Nat) : BufTy := match i % 128 with
  | 0 => ⟨S_, .i32⟩
  | 1 => ⟨S10000x128, .i32⟩
  | 2 => ⟨S10000x128, .i32⟩
  | 3 => ⟨S10000x128, .i32⟩
  | 4 => ⟨S10000x128, .i32⟩
  | 5 => ⟨S10000x128, .i32⟩
  | 6 => ⟨S10000x128, .i32⟩
  | 7 => ⟨S10000x128, .i32⟩
  | 8 => ⟨S10000x128, .i32⟩
  | 9 => ⟨S_, .i32⟩
  | 10 => ⟨S10000x128, .i32⟩
  | 11 => ⟨S10000x128, .i32⟩
  | 12 => ⟨S10000x128, .i32⟩
  | 13 => ⟨S_, .i32⟩
  | 14 => ⟨S10000x128, .i32⟩
  | 15 => ⟨S10000x128, .i32⟩
  | 16 => ⟨S_, .i32⟩
  | 17 => ⟨S10000x128, .i32⟩
  | 18 => ⟨S10000x128, .i32⟩
  | 19 => ⟨S10000x128, .f32⟩
  | 20 => ⟨S_, .f32⟩
  | 21 => ⟨S10000x128, .f32⟩
  | 22 => ⟨S10000x128, .f32⟩
  | 23 => ⟨S1x1, .f32⟩
  | 24 => ⟨S10000x128, .f32⟩
  | 25 => ⟨S10000x128, .f32⟩
  | 26 => ⟨S10000x128, .f32⟩
  | 27 => ⟨S10000x128, .f32⟩
  | 28 => ⟨S10000x128, .f32⟩
  | 29 => ⟨S10000x128, .f32⟩
  | 30 => ⟨S10000x128, .f32⟩
  | 31 => ⟨S10000x128, .i1⟩
  | 32 => ⟨S_, .f32⟩
  | 33 => ⟨S10000x128, .f32⟩
  | 34 => ⟨S10000x128, .f32⟩
  | 35 => ⟨S_, .f32⟩
  | 36 => ⟨S_, .f32⟩
  | 37 => ⟨S10000x128, .f32⟩
  | 38 => ⟨S10000x128, .f32⟩
  | 39 => ⟨S10000x64, .f32⟩
  | 40 => ⟨S10000x64, .f32⟩
  | 41 => ⟨S1x64, .f32⟩
  | 42 => ⟨S10000x64, .f32⟩
  | 43 => ⟨S10000x64, .f32⟩
  | 44 => ⟨S_, .f32⟩
  | 45 => ⟨S10000, .f32⟩
  | 46 => ⟨S_, .f32⟩
  | 47 => ⟨S10000, .f32⟩
  | 48 => ⟨S10000, .f32⟩
  | 49 => ⟨S10000x1, .f32⟩
  | 50 => ⟨S10000x64, .f32⟩
  | 51 => ⟨S10000x64, .f32⟩
  | 52 => ⟨S10000x64, .f32⟩
  | 53 => ⟨S_, .f32⟩
  | 54 => ⟨S10000, .f32⟩
  | 55 => ⟨S10000x1, .f32⟩
  | 56 => ⟨S10000x1, .f32⟩
  | 57 => ⟨S10000x64, .f32⟩
  | 58 => ⟨S10000x64, .f32⟩
  | _ => ⟨S10000x128, .f32⟩

abbrev hbmTy (i : Nat) : BufTy := match i / 128 with
  | 0 => hbmTy0_0 i
  | 1 => hbmTy0_1 i
  | 2 => hbmTy0_2 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_call0_cst : Ref sig .tc := ⟨.hbm, 22, rfl⟩
abbrev main_call0_cst_0 : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_c : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_call0_c_0 : Ref sig .tc := ⟨.hbm, 37, rfl⟩
abbrev main_call0_call0_v12 : Ref sig .tc := ⟨.hbm, 38, rfl⟩
abbrev main_call0_call0_v13 : Ref sig .tc := ⟨.hbm, 39, rfl⟩
abbrev main_call0_call0_v14 : Ref sig .tc := ⟨.hbm, 40, rfl⟩
abbrev main_call0_call0_c_1 : Ref sig .tc := ⟨.hbm, 41, rfl⟩
abbrev main_call0_call0_v15 : Ref sig .tc := ⟨.hbm, 42, rfl⟩
abbrev main_call0_call0_v16 : Ref sig .tc := ⟨.hbm, 43, rfl⟩
abbrev main_call0_call0_v17 : Ref sig .tc := ⟨.hbm, 44, rfl⟩
abbrev main_call0_call0_v18 : Ref sig .tc := ⟨.hbm, 45, rfl⟩
abbrev main_call0_call0_call0_v0 : Ref sig .tc := ⟨.hbm, 46, rfl⟩
abbrev main_call0_call0_call0_c : Ref sig .tc := ⟨.hbm, 47, rfl⟩
abbrev main_call0_call0_call0_v1 : Ref sig .tc := ⟨.hbm, 48, rfl⟩
abbrev main_call0_call0_call0_v2 : Ref sig .tc := ⟨.hbm, 49, rfl⟩
abbrev main_call0_call0_call0_v3 : Ref sig .tc := ⟨.hbm, 50, rfl⟩
abbrev main_call0_call0_call0_v4 : Ref sig .tc := ⟨.hbm, 51, rfl⟩
abbrev main_call0_call0_call0_v5 : Ref sig .tc := ⟨.hbm, 52, rfl⟩
abbrev main_call0_call0_call0_v6 : Ref sig .tc := ⟨.hbm, 53, rfl⟩
abbrev main_call0_call0_call0_c_0 : Ref sig .tc := ⟨.hbm, 54, rfl⟩
abbrev main_call0_call0_call0_v7 : Ref sig .tc := ⟨.hbm, 55, rfl⟩
abbrev main_call0_call0_call0_v8 : Ref sig .tc := ⟨.hbm, 56, rfl⟩
abbrev main_call0_call0_call0_c_1 : Ref sig .tc := ⟨.hbm, 57, rfl⟩
abbrev main_call0_call0_call0_v9 : Ref sig .tc := ⟨.hbm, 58, rfl⟩
abbrev main_call0_call0_call0_v10 : Ref sig .tc := ⟨.hbm, 59, rfl⟩
abbrev main_call0_call0_call0_v11 : Ref sig .tc := ⟨.hbm, 60, rfl⟩
abbrev main_call0_call0_call0_v12 : Ref sig .tc := ⟨.hbm, 61, rfl⟩
abbrev main_call0_call0_call0_v13 : Ref sig .tc := ⟨.hbm, 62, rfl⟩
abbrev main_call0_call0_call0_c_2 : Ref sig .tc := ⟨.hbm, 63, rfl⟩
abbrev main_call0_call0_call0_v14 : Ref sig .tc := ⟨.hbm, 64, rfl⟩
abbrev main_call0_call0_call0_v15 : Ref sig .tc := ⟨.hbm, 65, rfl⟩
abbrev main_call0_call0_call0_c_3 : Ref sig .tc := ⟨.hbm, 66, rfl⟩
abbrev main_call0_call0_call0_v16 : Ref sig .tc := ⟨.hbm, 67, rfl⟩
abbrev main_call0_call0_call0_v17 : Ref sig .tc := ⟨.hbm, 68, rfl⟩
abbrev main_call0_call0_call0_v18 : Ref sig .tc := ⟨.hbm, 69, rfl⟩
abbrev main_call0_call0_call0_v19 : Ref sig .tc := ⟨.hbm, 70, rfl⟩
abbrev main_call0_call0_call0_v20 : Ref sig .tc := ⟨.hbm, 71, rfl⟩
abbrev main_call0_call0_call0_c_4 : Ref sig .tc := ⟨.hbm, 72, rfl⟩
abbrev main_call0_call0_call0_v21 : Ref sig .tc := ⟨.hbm, 73, rfl⟩
abbrev main_call0_call0_call0_v22 : Ref sig .tc := ⟨.hbm, 74, rfl⟩
abbrev main_call0_call0_call0_c_5 : Ref sig .tc := ⟨.hbm, 75, rfl⟩
abbrev main_call0_call0_call0_v23 : Ref sig .tc := ⟨.hbm, 76, rfl⟩
abbrev main_call0_call0_call0_v24 : Ref sig .tc := ⟨.hbm, 77, rfl⟩
abbrev main_call0_call0_call0_v25 : Ref sig .tc := ⟨.hbm, 78, rfl⟩
abbrev main_call0_call0_call0_v26 : Ref sig .tc := ⟨.hbm, 79, rfl⟩
abbrev main_call0_call0_call0_v27 : Ref sig .tc := ⟨.hbm, 80, rfl⟩
abbrev main_call0_call0_call0_c_6 : Ref sig .tc := ⟨.hbm, 81, rfl⟩
abbrev main_call0_call0_call0_v28 : Ref sig .tc := ⟨.hbm, 82, rfl⟩
abbrev main_call0_call0_call0_v29 : Ref sig .tc := ⟨.hbm, 83, rfl⟩
abbrev main_call0_call0_call0_c_7 : Ref sig .tc := ⟨.hbm, 84, rfl⟩
abbrev main_call0_call0_call0_v30 : Ref sig .tc := ⟨.hbm, 85, rfl⟩
abbrev main_call0_call0_call0_v31 : Ref sig .tc := ⟨.hbm, 86, rfl⟩
abbrev main_call0_call0_call0_v32 : Ref sig .tc := ⟨.hbm, 87, rfl⟩
abbrev main_call0_call0_call0_v33 : Ref sig .tc := ⟨.hbm, 88, rfl⟩
abbrev main_call0_call0_call0_v34 : Ref sig .tc := ⟨.hbm, 89, rfl⟩
abbrev main_call0_call0_call0_v35 : Ref sig .tc := ⟨.hbm, 90, rfl⟩
abbrev main_call0_call0_call0_v36 : Ref sig .tc := ⟨.hbm, 91, rfl⟩
abbrev main_call0_call0_call0_v37 : Ref sig .tc := ⟨.hbm, 92, rfl⟩
abbrev main_call0_call0_call0_c_8 : Ref sig .tc := ⟨.hbm, 93, rfl⟩
abbrev main_call0_call0_call0_v38 : Ref sig .tc := ⟨.hbm, 94, rfl⟩
abbrev main_call0_call0_call0_v39 : Ref sig .tc := ⟨.hbm, 95, rfl⟩
abbrev main_call0_call0_call0_v40 : Ref sig .tc := ⟨.hbm, 96, rfl⟩
abbrev main_call0_call0_call0_c_9 : Ref sig .tc := ⟨.hbm, 97, rfl⟩
abbrev main_call0_call0_call0_v41 : Ref sig .tc := ⟨.hbm, 98, rfl⟩
abbrev main_call0_call0_call0_v42 : Ref sig .tc := ⟨.hbm, 99, rfl⟩
abbrev main_call0_call0_call0_c_10 : Ref sig .tc := ⟨.hbm, 100, rfl⟩
abbrev main_call0_call0_call0_v43 : Ref sig .tc := ⟨.hbm, 101, rfl⟩
abbrev main_call0_call0_call0_v44 : Ref sig .tc := ⟨.hbm, 102, rfl⟩
abbrev main_call0_call0_call0_v45 : Ref sig .tc := ⟨.hbm, 103, rfl⟩
abbrev main_call0_call0_call0_v46 : Ref sig .tc := ⟨.hbm, 104, rfl⟩
abbrev main_call0_call0_call0_v47 : Ref sig .tc := ⟨.hbm, 105, rfl⟩
abbrev main_call0_call0_call0_c_11 : Ref sig .tc := ⟨.hbm, 106, rfl⟩
abbrev main_call0_call0_call0_v48 : Ref sig .tc := ⟨.hbm, 107, rfl⟩
abbrev main_call0_call0_call0_v49 : Ref sig .tc := ⟨.hbm, 108, rfl⟩
abbrev main_call0_call0_call0_c_12 : Ref sig .tc := ⟨.hbm, 109, rfl⟩
abbrev main_call0_call0_call0_v50 : Ref sig .tc := ⟨.hbm, 110, rfl⟩
abbrev main_call0_call0_call0_v51 : Ref sig .tc := ⟨.hbm, 111, rfl⟩
abbrev main_call0_call0_call0_v52 : Ref sig .tc := ⟨.hbm, 112, rfl⟩
abbrev main_call0_call0_call0_v53 : Ref sig .tc := ⟨.hbm, 113, rfl⟩
abbrev main_call0_call0_call0_v54 : Ref sig .tc := ⟨.hbm, 114, rfl⟩
abbrev main_call0_call0_call0_c_13 : Ref sig .tc := ⟨.hbm, 115, rfl⟩
abbrev main_call0_call0_call0_v55 : Ref sig .tc := ⟨.hbm, 116, rfl⟩
abbrev main_call0_call0_call0_v56 : Ref sig .tc := ⟨.hbm, 117, rfl⟩
abbrev main_call0_call0_call0_c_14 : Ref sig .tc := ⟨.hbm, 118, rfl⟩
abbrev main_call0_call0_call0_v57 : Ref sig .tc := ⟨.hbm, 119, rfl⟩
abbrev main_call0_call0_call0_v58 : Ref sig .tc := ⟨.hbm, 120, rfl⟩
abbrev main_call0_call0_call0_v59 : Ref sig .tc := ⟨.hbm, 121, rfl⟩
abbrev main_call0_call0_call0_v60 : Ref sig .tc := ⟨.hbm, 122, rfl⟩
abbrev main_call0_call0_call0_v61 : Ref sig .tc := ⟨.hbm, 123, rfl⟩
abbrev main_call0_call0_call0_c_15 : Ref sig .tc := ⟨.hbm, 124, rfl⟩
abbrev main_call0_call0_call0_v62 : Ref sig .tc := ⟨.hbm, 125, rfl⟩
abbrev main_call0_call0_call0_v63 : Ref sig .tc := ⟨.hbm, 126, rfl⟩
abbrev main_call0_call0_call0_c_16 : Ref sig .tc := ⟨.hbm, 127, rfl⟩
abbrev main_call0_call0_call0_v64 : Ref sig .tc := ⟨.hbm, 128, rfl⟩
abbrev main_call0_call0_call0_v65 : Ref sig .tc := ⟨.hbm, 129, rfl⟩
abbrev main_call0_call0_call0_v66 : Ref sig .tc := ⟨.hbm, 130, rfl⟩
abbrev main_call0_call0_call0_v67 : Ref sig .tc := ⟨.hbm, 131, rfl⟩
abbrev main_call0_call0_call0_v68 : Ref sig .tc := ⟨.hbm, 132, rfl⟩
abbrev main_call0_call0_call0_v69 : Ref sig .tc := ⟨.hbm, 133, rfl⟩
abbrev main_call0_call0_call0_v70 : Ref sig .tc := ⟨.hbm, 134, rfl⟩
abbrev main_call0_call0_call0_v71 : Ref sig .tc := ⟨.hbm, 135, rfl⟩
abbrev main_call0_call0_call0_c_17 : Ref sig .tc := ⟨.hbm, 136, rfl⟩
abbrev main_call0_call0_call0_v72 : Ref sig .tc := ⟨.hbm, 137, rfl⟩
abbrev main_call0_call0_call0_v73 : Ref sig .tc := ⟨.hbm, 138, rfl⟩
abbrev main_call0_call0_call0_v74 : Ref sig .tc := ⟨.hbm, 139, rfl⟩
abbrev main_call0_call0_call0_c_18 : Ref sig .tc := ⟨.hbm, 140, rfl⟩
abbrev main_call0_call0_call0_v75 : Ref sig .tc := ⟨.hbm, 141, rfl⟩
abbrev main_call0_call0_call0_v76 : Ref sig .tc := ⟨.hbm, 142, rfl⟩
abbrev main_call0_call0_call0_c_19 : Ref sig .tc := ⟨.hbm, 143, rfl⟩
abbrev main_call0_call0_call0_v77 : Ref sig .tc := ⟨.hbm, 144, rfl⟩
abbrev main_call0_call0_call0_v78 : Ref sig .tc := ⟨.hbm, 145, rfl⟩
abbrev main_call0_call0_call0_v79 : Ref sig .tc := ⟨.hbm, 146, rfl⟩
abbrev main_call0_call0_call0_v80 : Ref sig .tc := ⟨.hbm, 147, rfl⟩
abbrev main_call0_call0_call0_v81 : Ref sig .tc := ⟨.hbm, 148, rfl⟩
abbrev main_call0_call0_call0_c_20 : Ref sig .tc := ⟨.hbm, 149, rfl⟩
abbrev main_call0_call0_call0_v82 : Ref sig .tc := ⟨.hbm, 150, rfl⟩
abbrev main_call0_call0_call0_v83 : Ref sig .tc := ⟨.hbm, 151, rfl⟩
abbrev main_call0_call0_call0_c_21 : Ref sig .tc := ⟨.hbm, 152, rfl⟩
abbrev main_call0_call0_call0_v84 : Ref sig .tc := ⟨.hbm, 153, rfl⟩
abbrev main_call0_call0_call0_v85 : Ref sig .tc := ⟨.hbm, 154, rfl⟩
abbrev main_call0_call0_call0_v86 : Ref sig .tc := ⟨.hbm, 155, rfl⟩
abbrev main_call0_call0_call0_v87 : Ref sig .tc := ⟨.hbm, 156, rfl⟩
abbrev main_call0_call0_call0_v88 : Ref sig .tc := ⟨.hbm, 157, rfl⟩
abbrev main_call0_call0_call0_c_22 : Ref sig .tc := ⟨.hbm, 158, rfl⟩
abbrev main_call0_call0_call0_v89 : Ref sig .tc := ⟨.hbm, 159, rfl⟩
abbrev main_call0_call0_call0_v90 : Ref sig .tc := ⟨.hbm, 160, rfl⟩
abbrev main_call0_call0_call0_c_23 : Ref sig .tc := ⟨.hbm, 161, rfl⟩
abbrev main_call0_call0_call0_v91 : Ref sig .tc := ⟨.hbm, 162, rfl⟩
abbrev main_call0_call0_call0_v92 : Ref sig .tc := ⟨.hbm, 163, rfl⟩
abbrev main_call0_call0_call0_v93 : Ref sig .tc := ⟨.hbm, 164, rfl⟩
abbrev main_call0_call0_call0_v94 : Ref sig .tc := ⟨.hbm, 165, rfl⟩
abbrev main_call0_call0_call0_v95 : Ref sig .tc := ⟨.hbm, 166, rfl⟩
abbrev main_call0_call0_call0_c_24 : Ref sig .tc := ⟨.hbm, 167, rfl⟩
abbrev main_call0_call0_call0_v96 : Ref sig .tc := ⟨.hbm, 168, rfl⟩
abbrev main_call0_call0_call0_v97 : Ref sig .tc := ⟨.hbm, 169, rfl⟩
abbrev main_call0_call0_call0_c_25 : Ref sig .tc := ⟨.hbm, 170, rfl⟩
abbrev main_call0_call0_call0_v98 : Ref sig .tc := ⟨.hbm, 171, rfl⟩
abbrev main_call0_call0_call0_v99 : Ref sig .tc := ⟨.hbm, 172, rfl⟩
abbrev main_call0_call0_call0_v100 : Ref sig .tc := ⟨.hbm, 173, rfl⟩
abbrev main_call0_call0_call0_v101 : Ref sig .tc := ⟨.hbm, 174, rfl⟩
abbrev main_call0_call0_call0_v102 : Ref sig .tc := ⟨.hbm, 175, rfl⟩
abbrev main_call0_call0_call0_v103 : Ref sig .tc := ⟨.hbm, 176, rfl⟩
abbrev main_call0_call0_call0_v104 : Ref sig .tc := ⟨.hbm, 177, rfl⟩
abbrev main_call0_call0_call0_v105 : Ref sig .tc := ⟨.hbm, 178, rfl⟩
abbrev main_call0_call0_call0_c_26 : Ref sig .tc := ⟨.hbm, 179, rfl⟩
abbrev main_call0_call0_call0_v106 : Ref sig .tc := ⟨.hbm, 180, rfl⟩
abbrev main_call0_call0_call0_v107 : Ref sig .tc := ⟨.hbm, 181, rfl⟩
abbrev main_call0_call0_call0_v108 : Ref sig .tc := ⟨.hbm, 182, rfl⟩
abbrev main_call0_call0_call0_c_27 : Ref sig .tc := ⟨.hbm, 183, rfl⟩
abbrev main_call0_call0_call0_v109 : Ref sig .tc := ⟨.hbm, 184, rfl⟩
abbrev main_call0_call0_call0_v110 : Ref sig .tc := ⟨.hbm, 185, rfl⟩
abbrev main_call0_call0_call0_c_28 : Ref sig .tc := ⟨.hbm, 186, rfl⟩
abbrev main_call0_call0_call0_v111 : Ref sig .tc := ⟨.hbm, 187, rfl⟩
abbrev main_call0_call0_call0_v112 : Ref sig .tc := ⟨.hbm, 188, rfl⟩
abbrev main_call0_call0_call0_v113 : Ref sig .tc := ⟨.hbm, 189, rfl⟩
abbrev main_call0_call0_call0_v114 : Ref sig .tc := ⟨.hbm, 190, rfl⟩
abbrev main_call0_call0_call0_v115 : Ref sig .tc := ⟨.hbm, 191, rfl⟩
abbrev main_call0_call0_call0_c_29 : Ref sig .tc := ⟨.hbm, 192, rfl⟩
abbrev main_call0_call0_call0_v116 : Ref sig .tc := ⟨.hbm, 193, rfl⟩
abbrev main_call0_call0_call0_v117 : Ref sig .tc := ⟨.hbm, 194, rfl⟩
abbrev main_call0_call0_call0_c_30 : Ref sig .tc := ⟨.hbm, 195, rfl⟩
abbrev main_call0_call0_call0_v118 : Ref sig .tc := ⟨.hbm, 196, rfl⟩
abbrev main_call0_call0_call0_v119 : Ref sig .tc := ⟨.hbm, 197, rfl⟩
abbrev main_call0_call0_call0_v120 : Ref sig .tc := ⟨.hbm, 198, rfl⟩
abbrev main_call0_call0_call0_v121 : Ref sig .tc := ⟨.hbm, 199, rfl⟩
abbrev main_call0_call0_call0_v122 : Ref sig .tc := ⟨.hbm, 200, rfl⟩
abbrev main_call0_call0_call0_c_31 : Ref sig .tc := ⟨.hbm, 201, rfl⟩
abbrev main_call0_call0_call0_v123 : Ref sig .tc := ⟨.hbm, 202, rfl⟩
abbrev main_call0_call0_call0_v124 : Ref sig .tc := ⟨.hbm, 203, rfl⟩
abbrev main_call0_call0_call0_c_32 : Ref sig .tc := ⟨.hbm, 204, rfl⟩
abbrev main_call0_call0_call0_v125 : Ref sig .tc := ⟨.hbm, 205, rfl⟩
abbrev main_call0_call0_call0_v126 : Ref sig .tc := ⟨.hbm, 206, rfl⟩
abbrev main_call0_call0_call0_v127 : Ref sig .tc := ⟨.hbm, 207, rfl⟩
abbrev main_call0_call0_call0_v128 : Ref sig .tc := ⟨.hbm, 208, rfl⟩
abbrev main_call0_call0_call0_v129 : Ref sig .tc := ⟨.hbm, 209, rfl⟩
abbrev main_call0_call0_call0_c_33 : Ref sig .tc := ⟨.hbm, 210, rfl⟩
abbrev main_call0_call0_call0_v130 : Ref sig .tc := ⟨.hbm, 211, rfl⟩
abbrev main_call0_call0_call0_v131 : Ref sig .tc := ⟨.hbm, 212, rfl⟩
abbrev main_call0_call0_call0_c_34 : Ref sig .tc := ⟨.hbm, 213, rfl⟩
abbrev main_call0_call0_call0_v132 : Ref sig .tc := ⟨.hbm, 214, rfl⟩
abbrev main_call0_call0_call0_v133 : Ref sig .tc := ⟨.hbm, 215, rfl⟩
abbrev main_call0_call0_call0_v134 : Ref sig .tc := ⟨.hbm, 216, rfl⟩
abbrev main_call0_call0_call0_v135 : Ref sig .tc := ⟨.hbm, 217, rfl⟩
abbrev main_call0_call0_call0_v136 : Ref sig .tc := ⟨.hbm, 218, rfl⟩
abbrev main_call0_call0_call0_v137 : Ref sig .tc := ⟨.hbm, 219, rfl⟩
abbrev main_call0_call0_call0_v138 : Ref sig .tc := ⟨.hbm, 220, rfl⟩
abbrev main_call0_call0_call0_v139 : Ref sig .tc := ⟨.hbm, 221, rfl⟩
abbrev main_call0_call0_call0_c_35 : Ref sig .tc := ⟨.hbm, 222, rfl⟩
abbrev main_call0_call0_call0_v140 : Ref sig .tc := ⟨.hbm, 223, rfl⟩
abbrev main_call0_call0_call0_v141 : Ref sig .tc := ⟨.hbm, 224, rfl⟩
abbrev main_call0_call0_call0_v142 : Ref sig .tc := ⟨.hbm, 225, rfl⟩
abbrev main_call0_call0_call0_c_36 : Ref sig .tc := ⟨.hbm, 226, rfl⟩
abbrev main_call0_call0_call0_v143 : Ref sig .tc := ⟨.hbm, 227, rfl⟩
abbrev main_call0_call0_call0_v144 : Ref sig .tc := ⟨.hbm, 228, rfl⟩
abbrev main_call0_call0_call0_c_37 : Ref sig .tc := ⟨.hbm, 229, rfl⟩
abbrev main_call0_call0_call0_v145 : Ref sig .tc := ⟨.hbm, 230, rfl⟩
abbrev main_call0_call0_call0_v146 : Ref sig .tc := ⟨.hbm, 231, rfl⟩
abbrev main_call0_call0_call0_v147 : Ref sig .tc := ⟨.hbm, 232, rfl⟩
abbrev main_call0_call0_call0_v148 : Ref sig .tc := ⟨.hbm, 233, rfl⟩
abbrev main_call0_call0_call0_v149 : Ref sig .tc := ⟨.hbm, 234, rfl⟩
abbrev main_call0_call0_call0_c_38 : Ref sig .tc := ⟨.hbm, 235, rfl⟩
abbrev main_call0_call0_call0_v150 : Ref sig .tc := ⟨.hbm, 236, rfl⟩
abbrev main_call0_call0_call0_v151 : Ref sig .tc := ⟨.hbm, 237, rfl⟩
abbrev main_call0_call0_call0_c_39 : Ref sig .tc := ⟨.hbm, 238, rfl⟩
abbrev main_call0_call0_call0_v152 : Ref sig .tc := ⟨.hbm, 239, rfl⟩
abbrev main_call0_call0_call0_v153 : Ref sig .tc := ⟨.hbm, 240, rfl⟩
abbrev main_call0_call0_call0_v154 : Ref sig .tc := ⟨.hbm, 241, rfl⟩
abbrev main_call0_call0_call0_v155 : Ref sig .tc := ⟨.hbm, 242, rfl⟩
abbrev main_call0_call0_call0_v156 : Ref sig .tc := ⟨.hbm, 243, rfl⟩
abbrev main_call0_call0_call0_c_40 : Ref sig .tc := ⟨.hbm, 244, rfl⟩
abbrev main_call0_call0_call0_v157 : Ref sig .tc := ⟨.hbm, 245, rfl⟩
abbrev main_call0_call0_call0_v158 : Ref sig .tc := ⟨.hbm, 246, rfl⟩
abbrev main_call0_call0_call0_c_41 : Ref sig .tc := ⟨.hbm, 247, rfl⟩
abbrev main_call0_call0_call0_v159 : Ref sig .tc := ⟨.hbm, 248, rfl⟩
abbrev main_call0_call0_call0_v160 : Ref sig .tc := ⟨.hbm, 249, rfl⟩
abbrev main_call0_call0_call0_v161 : Ref sig .tc := ⟨.hbm, 250, rfl⟩
abbrev main_call0_call0_call0_v162 : Ref sig .tc := ⟨.hbm, 251, rfl⟩
abbrev main_call0_call0_call0_v163 : Ref sig .tc := ⟨.hbm, 252, rfl⟩
abbrev main_call0_call0_call0_c_42 : Ref sig .tc := ⟨.hbm, 253, rfl⟩
abbrev main_call0_call0_call0_v164 : Ref sig .tc := ⟨.hbm, 254, rfl⟩
abbrev main_call0_call0_call0_v165 : Ref sig .tc := ⟨.hbm, 255, rfl⟩
abbrev main_call0_call0_call0_c_43 : Ref sig .tc := ⟨.hbm, 256, rfl⟩
abbrev main_call0_call0_call0_v166 : Ref sig .tc := ⟨.hbm, 257, rfl⟩
abbrev main_call0_call0_call0_v167 : Ref sig .tc := ⟨.hbm, 258, rfl⟩
abbrev main_call0_call0_call0_v168 : Ref sig .tc := ⟨.hbm, 259, rfl⟩
abbrev main_call0_call0_call0_v169 : Ref sig .tc := ⟨.hbm, 260, rfl⟩
abbrev main_call0_call0_call0_v170 : Ref sig .tc := ⟨.hbm, 261, rfl⟩
abbrev main_call0_call0_v19_0 : Ref sig .tc := ⟨.hbm, 262, rfl⟩
abbrev main_call0_call0_call0_v172 : Ref sig .tc := ⟨.hbm, 263, rfl⟩
abbrev main_call0_call0_call0_v173 : Ref sig .tc := ⟨.hbm, 264, rfl⟩
abbrev main_call0_call0_call0_c_44 : Ref sig .tc := ⟨.hbm, 265, rfl⟩
abbrev main_call0_call0_call0_v174 : Ref sig .tc := ⟨.hbm, 266, rfl⟩
abbrev main_call0_call0_v19_1 : Ref sig .tc := ⟨.hbm, 267, rfl⟩
abbrev main_call0_call0_v20 : Ref sig .tc := ⟨.hbm, 268, rfl⟩
abbrev main_call0_call0_c_2 : Ref sig .tc := ⟨.hbm, 269, rfl⟩
abbrev main_call0_call0_v21 : Ref sig .tc := ⟨.hbm, 270, rfl⟩
abbrev main_call0_call0_v22 : Ref sig .tc := ⟨.hbm, 271, rfl⟩
abbrev main_call0_call0_c_3 : Ref sig .tc := ⟨.hbm, 272, rfl⟩
abbrev main_call0_call0_v23 : Ref sig .tc := ⟨.hbm, 273, rfl⟩
abbrev main_call0_call0_v24 : Ref sig .tc := ⟨.hbm, 274, rfl⟩
abbrev main_call0_call0_v25 : Ref sig .tc := ⟨.hbm, 275, rfl⟩
abbrev main_call0_call0_cst : Ref sig .tc := ⟨.hbm, 276, rfl⟩
abbrev main_call0_call0_v26 : Ref sig .tc := ⟨.hbm, 277, rfl⟩
abbrev main_call0_call0_v27 : Ref sig .tc := ⟨.hbm, 278, rfl⟩
abbrev main_call0_call0_v28 : Ref sig .tc := ⟨.hbm, 279, rfl⟩
abbrev main_call0_call0_v29 : Ref sig .tc := ⟨.hbm, 280, rfl⟩
abbrev main_call0_call0_v30 : Ref sig .tc := ⟨.hbm, 281, rfl⟩
abbrev main_call0_call0_v31 : Ref sig .tc := ⟨.hbm, 282, rfl⟩
abbrev main_call0_call0_v32 : Ref sig .tc := ⟨.hbm, 283, rfl⟩
abbrev main_call0_call0_v33 : Ref sig .tc := ⟨.hbm, 284, rfl⟩
abbrev main_call0_v0 : Ref sig .tc := ⟨.hbm, 285, rfl⟩
abbrev main_call0_v1 : Ref sig .tc := ⟨.hbm, 286, rfl⟩
abbrev main_v12 : Ref sig .tc := ⟨.hbm, 287, rfl⟩
abbrev main_cst_2 : Ref sig .tc := ⟨.hbm, 288, rfl⟩
abbrev main_v13 : Ref sig .tc := ⟨.hbm, 289, rfl⟩
abbrev main_v14 : Ref sig .tc := ⟨.hbm, 290, rfl⟩
abbrev main_cst_3 : Ref sig .tc := ⟨.hbm, 291, rfl⟩
abbrev main_call1_v0 : Ref sig .tc := ⟨.hbm, 292, rfl⟩
abbrev main_call1_v1 : Ref sig .tc := ⟨.hbm, 293, rfl⟩
abbrev main_v15 : Ref sig .tc := ⟨.hbm, 294, rfl⟩
abbrev main_v16 : Ref sig .tc := ⟨.hbm, 295, rfl⟩
abbrev main_v17 : Ref sig .tc := ⟨.hbm, 296, rfl⟩
abbrev main_v18 : Ref sig .tc := ⟨.hbm, 297, rfl⟩
abbrev main_v19 : Ref sig .tc := ⟨.hbm, 298, rfl⟩
abbrev main_v20 : Ref sig .tc := ⟨.hbm, 299, rfl⟩
abbrev main_call2_cst : Ref sig .tc := ⟨.hbm, 300, rfl⟩
abbrev main_call2_v0 : Ref sig .tc := ⟨.hbm, 301, rfl⟩
abbrev main_call2_cst_0 : Ref sig .tc := ⟨.hbm, 302, rfl⟩
abbrev main_call2_v1 : Ref sig .tc := ⟨.hbm, 303, rfl⟩
abbrev main_call2_v2 : Ref sig .tc := ⟨.hbm, 304, rfl⟩
abbrev main_call2_v3 : Ref sig .tc := ⟨.hbm, 305, rfl⟩
abbrev main_call2_v4 : Ref sig .tc := ⟨.hbm, 306, rfl⟩
abbrev main_call2_v5 : Ref sig .tc := ⟨.hbm, 307, rfl⟩
abbrev main_call2_v6 : Ref sig .tc := ⟨.hbm, 308, rfl⟩
abbrev main_call2_cst_1 : Ref sig .tc := ⟨.hbm, 309, rfl⟩
abbrev main_call2_v7 : Ref sig .tc := ⟨.hbm, 310, rfl⟩
abbrev main_call2_v8 : Ref sig .tc := ⟨.hbm, 311, rfl⟩
abbrev main_call2_v9 : Ref sig .tc := ⟨.hbm, 312, rfl⟩
abbrev main_call2_v10 : Ref sig .tc := ⟨.hbm, 313, rfl⟩
abbrev main_v21 : Ref sig .tc := ⟨.hbm, 314, rfl⟩

abbrev nD : Nat := 1
abbrev τ : Topo := Topo.v7x

variable {F : FTy → Type} [FloatOps F]
-- ==== Proof.Runs.lean ====
/- The kernel body at one grid point, as statements about what its buffers hold before and after: the first point
   (which also fills the first scratch), the other points of the first pass, the points of the second pass. -/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.WritesUnit
public import Idealize.ShloMosaic.Lib.ValueIdx
public import Idealize.ShloMosaic.Lib.VecWindow
public import Idealize.ShloMosaic.Lib.WholeRead

@[expose] public section

set_option maxRecDepth 16384

noncomputable section

namespace Cert.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.ValueIdx

variable {F : FTy → Type} [FloatOps F]

local notation "𝕄" => MT nD τ sig Unit (Elt F) ℕ (UR sig nD τ) ℕ

/-! ## The conditions on the grid point -/

/-- The point is the first one, as the body computes it. -/
abbrev isFirst (i : grid0.Coords) : Prop :=
  (Scalar.cmpi .ne (Scalar.extui (Scalar.cmpi .eq (BitVec.ofNat 32 (i 0).val) 0#32)) 0#32) = 1#1

/-- The point belongs to the first pass, as the body computes it. -/
abbrev inPass1 (i : grid0.Coords) : Prop := k0_cond2 i = 1#1

/-- The point belongs to the second pass, as the body computes it. -/
abbrev inPass2 (i : grid0.Coords) : Prop := k0_cond3 i = 1#1

/-- The first point is point zero. -/
theorem isFirst_iff : ∀ t : Fin grid0.N, isFirst (grid0.coords t) ↔ t.val = 0 := by decide +kernel

/-- The first pass is the points before point 25. -/
theorem inPass1_iff : ∀ t : Fin grid0.N, inPass1 (grid0.coords t) ↔ t.val < 25 := by decide +kernel

/-- The second pass is the points from point 25 on. -/
theorem inPass2_iff : ∀ t : Fin grid0.N, inPass2 (grid0.coords t) ↔ 25 ≤ t.val := by decide +kernel

/-- At a point of the first pass, the first band stored into the second scratch begins at row `400 t`. -/
theorem off1_eq : ∀ t : Fin grid0.N, t.val < 25 → k0_off1 (grid0.coords t) = ![400 * t.val, 0] := by decide +kernel

/-- At a point of the first pass, the second band stored into the second scratch begins at row `400 t + 200`. -/
theorem off2_eq : ∀ t : Fin grid0.N, t.val < 25 → k0_off2 (grid0.coords t) = ![400 * t.val + 200, 0] := by decide +kernel

/-! ## What the body leaves -/

/-- Rows 0–199 of a block of 400 rows. -/
def upper (x : Vec F S400x128 .f32) : Vec F S200x128 .f32 :=
  fun y => x (ix2 ⟨(y 0).val, lt_of_lt_of_le (y 0).isLt (by decide)⟩ (y 1))

/-- Rows 200–399 of a block of 400 rows. -/
def lower (x : Vec F S400x128 .f32) : Vec F S200x128 .f32 :=
  fun y => x (ix2 ⟨200 + (y 0).val, Nat.add_lt_add_left (y 0).isLt 200⟩ (y 1))

/-- Contents `d` of the second scratch with rows `400 k …` replaced by the 200 rows of `P` and then the 200 rows of `Q`. -/
def bands (k : ℕ) (P Q : Vec F S200x64 .f32) (d : Vec F S10000x64 .f32) : Vec F S10000x64 .f32 :=
  fun y =>
    if h : 400 * k + 200 ≤ (y 0).val ∧ (y 0).val < 400 * k + 200 + 200 then
      Q (ix2 ⟨(y 0).val - (400 * k + 200), by omega⟩ (y 1))
    else if h : 400 * k ≤ (y 0).val ∧ (y 0).val < 400 * k + 200 then
      P (ix2 ⟨(y 0).val - 400 * k, by omega⟩ (y 1))
    else d y

/-- The 200 rows of `P` on top of the 200 rows of `Q`. -/
def halves (P Q : Vec F S200x64 .f32) : Vec F S400x64 .f32 :=
  fun y =>
    if h : (y 0).val < 200 then P (ix2 ⟨(y 0).val, h⟩ (y 1))
    else Q (ix2 ⟨(y 0).val - 200, by have : (y 0).val < 400 := (y 0).isLt; omega⟩ (y 1))

/-- A load of rows 0–199 of a block held at `x` yields the upper half of `x`. -/
theorem load_upper {arg : Memref sig .tc .vmem S400x128 .f32} (h : arg.IsWhole) (x : Vec F S400x128 .f32)
    (inb : ∀ a, (![0, 0] : Fin 2 → ℕ) a + S200x128.size a ≤ S400x128.size a) :
    View.readAt (Elt F) arg.view (Rect.unit (s := S400x128) ![0, 0] S200x128.size inb).toLoadRect (h.unread x) = upper x := by
  funext y
  refine (h.readAt_unread x _ y).trans (congrArg x (funext fun a => Fin.ext ?_))
  fin_cases a
  · show 0 + 1 * (y 0).val = (y 0).val; omega
  · show 0 + 1 * (y 1).val = (y 1).val; omega

/-- A load of rows 200–399 of a block held at `x` yields the lower half of `x`. -/
theorem load_lower {arg : Memref sig .tc .vmem S400x128 .f32} (h : arg.IsWhole) (x : Vec F S400x128 .f32)
    (inb : ∀ a, (![200, 0] : Fin 2 → ℕ) a + S200x128.size a ≤ S400x128.size a) :
    View.readAt (Elt F) arg.view (Rect.unit (s := S400x128) ![200, 0] S200x128.size inb).toLoadRect (h.unread x) = lower x := by
  funext y
  refine (h.readAt_unread x _ y).trans (congrArg x (funext fun a => Fin.ext ?_))
  fin_cases a
  · show 200 + 1 * (y 0).val = 200 + (y 0).val; omega
  · show 0 + 1 * (y 1).val = (y 1).val; omega

/-- A load of a whole buffer held at `x` yields `x`. -/
theorem load_whole {s : Shape} {arg : Memref sig .tc .vmem s .f32} (h : arg.IsWhole) (x : Vec F s .f32)
    {off : Fin s.rank → ℕ} (inb : ∀ a, off a + s.size a ≤ s.size a) :
    View.readAt (Elt F) arg.view (Rect.unit (s := s) off s.size inb).toLoadRect (h.unread x) = x := by
  rw [View.readAt_full, h.read_unread]

/-- What a scratch held at `d` reads after the two bands of a point of the first pass have been stored. -/
theorem read_bands (v : View sig .tc .vmem S10000x64 .f32) (f : v.ty.Contents (Elt F)) {k : ℕ} {off1 off2 : Fin 2 → ℕ}
    (i1 : ∀ a, off1 a + S200x64.size a ≤ S10000x64.size a) (i2 : ∀ a, off2 a + S200x64.size a ≤ S10000x64.size a)
    (P Q : Vec F S200x64 .f32) (h1 : off1 = ![400 * k, 0]) (h2 : off2 = ![400 * k + 200, 0]) :
    v.read (Elt F) (v.writes (Elt F) f [⟨Rect.unit (s := S10000x64) off2 S200x64.size i2, Q⟩,
      ⟨Rect.unit (s := S10000x64) off1 S200x64.size i1, P⟩]) = bands k P Q (v.read (Elt F) f) := by
  funext y
  unfold bands
  refine (View.read_writes_cons_rows (W := 200) v f i2 Q _ y h2 rfl rfl).trans ?_
  by_cases hq : 400 * k + 200 ≤ (y 0).val ∧ (y 0).val < 400 * k + 200 + 200
  · refine (dif_pos hq).trans (Eq.trans ?_ (dif_pos hq).symm)
    refine congrArg Q (funext fun a => ?_)
    fin_cases a <;> rfl
  · refine (dif_neg hq).trans (Eq.trans ?_ (dif_neg hq).symm)
    refine (View.read_writes_cons_rows (W := 200) v f i1 P _ y h1 rfl rfl).trans ?_
    by_cases hp : 400 * k ≤ (y 0).val ∧ (y 0).val < 400 * k + 200
    · refine (dif_pos hp).trans (Eq.trans ?_ (dif_pos hp).symm)
      refine congrArg P (funext fun a => ?_)
      fin_cases a <;> rfl
    · refine (dif_neg hp).trans (Eq.trans ?_ (dif_neg hp).symm)
      rfl

/-- What an output block reads after its two halves have been stored. -/
theorem read_halves (v : View sig .tc .vmem S400x64 .f32) (f : v.ty.Contents (Elt F))
    (i1 : ∀ a, (![0, 0] : Fin 2 → ℕ) a + S200x64.size a ≤ S400x64.size a)
    (i2 : ∀ a, (![200, 0] : Fin 2 → ℕ) a + S200x64.size a ≤ S400x64.size a) (P Q : Vec F S200x64 .f32) :
    v.read (Elt F) (v.writes (Elt F) f [⟨Rect.unit (s := S400x64) ![200, 0] S200x64.size i2, Q⟩,
      ⟨Rect.unit (s := S400x64) ![0, 0] S200x64.size i1, P⟩]) = halves P Q := by
  funext y
  have hy : (y 0).val < 400 := (y 0).isLt
  unfold halves
  refine (View.read_writes_cons_rows (W := 200) v f i2 Q _ y rfl rfl rfl).trans ?_
  by_cases hp : (y 0).val < 200
  · refine (dif_neg (show ¬(200 ≤ (y 0).val ∧ (y 0).val < 200 + 200) by omega)).trans (Eq.trans ?_ (dif_pos hp).symm)
    refine (View.read_writes_cons_rows (W := 200) v f i1 P _ y rfl rfl rfl).trans ?_
    refine (dif_pos (show 0 ≤ (y 0).val ∧ (y 0).val < 0 + 200 by omega)).trans ?_
    refine congrArg P (funext fun a => ?_)
    fin_cases a <;> rfl
  · refine (dif_pos (show 200 ≤ (y 0).val ∧ (y 0).val < 200 + 200 by omega)).trans (Eq.trans ?_ (dif_neg hp).symm)
    refine congrArg Q (funext fun a => ?_)
    fin_cases a <;> rfl

/-- The band of the second layer's input that the first half of a first-pass point computes. -/
abbrev bandP (x2 : Vec F S200x10000 .f32) (s : Vec F S10000x128 .f32) (x4 : Vec F S400x128 .f32) (x5 : Vec F S1x128 .f32)
    (x6 : Vec F S128x64 .f32) : Vec F S200x64 .f32 := k0_pay3 x2 s x5 (upper x4) x6

/-- The band that its second half computes. -/
abbrev bandQ (x3 : Vec F S200x10000 .f32) (s : Vec F S10000x128 .f32) (x4 : Vec F S400x128 .f32) (x5 : Vec F S1x128 .f32)
    (x6 : Vec F S128x64 .f32) : Vec F S200x64 .f32 := k0_pay2 (k0_pay4 x3 s x5 (lower x4) x6)

theorem pay3_congr {a a' : Vec F S200x10000 .f32} {b b' : Vec F S10000x128 .f32} {c c' : Vec F S1x128 .f32} {d d' : Vec F S200x128 .f32}
    {e e' : Vec F S128x64 .f32} (ha : a = a') (hb : b = b') (hc : c = c') (hd : d = d') (he : e = e') :
    k0_pay3 a b c d e = k0_pay3 a' b' c' d' e' := by subst ha hb hc hd he; rfl

theorem pay4_congr {a a' : Vec F S200x10000 .f32} {b b' : Vec F S10000x128 .f32} {c c' : Vec F S1x128 .f32} {d d' : Vec F S200x128 .f32}
    {e e' : Vec F S128x64 .f32} (ha : a = a') (hb : b = b') (hc : c = c') (hd : d = d') (he : e = e') :
    k0_pay4 a b c d e = k0_pay4 a' b' c' d' e' := by subst ha hb hc hd he; rfl

theorem pay5_congr {a a' : Vec F S200x10000 .f32} {b b' : Vec F S10000x64 .f32} {c c' : Vec F S1x64 .f32}
    (ha : a = a') (hb : b = b') (hc : c = c') : k0_pay5 a b c = k0_pay5 a' b' c' := by subst ha hb hc; rfl

theorem pay6_congr {a a' : Vec F S200x10000 .f32} {b b' : Vec F S10000x64 .f32} {c c' : Vec F S1x64 .f32}
    (ha : a = a') (hb : b = b') (hc : c = c') : k0_pay6 a b c = k0_pay6 a' b' c' := by subst ha hb hc; rfl

set_option maxHeartbeats 1000000 in
/-- The first point: the first scratch, at anything, ends at the first layer's product, and the second has its first two bands stored; the output's buffer is left as it was. -/
theorem run_first (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S400x64 .f32) (harg9 : arg9.IsWhole) (arg10 : Memref sig .tc .vmem S10000x128 .f32) (harg10 : arg10.IsWhole) (arg11 : Memref sig .tc .vmem S10000x64 .f32) (harg11 : arg11.IsWhole)
    (hc0 : isFirst i) (hc1 : inPass1 i) (hc2 : ¬inPass2 i)
    (x0 : Vec F S10000x128 .f32) (x1 : Vec F S128x128 .f32) (x2 : Vec F S200x10000 .f32) (x3 : Vec F S200x10000 .f32) (x4 : Vec F S400x128 .f32) (x5 : Vec F S1x128 .f32) (x6 : Vec F S128x64 .f32) (x7 : Vec F S1x64 .f32)
    (xs1 : Vec F S10000x64 .f32) (k : ℕ) (ho1 : k0_off1 i = ![400 * k, 0]) (ho2 : k0_off2 i = ![400 * k + 200, 0]) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg10 fullShare d) ∗ owns (c : Thread nD τ) arg11 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg10 fullShare (k0_pay1 x0 x1) ∗ owns (c : Thread nD τ) arg11 fullShare (bands k (bandP x2 (k0_pay1 x0 x1) x4 x5 x6) (bandQ x3 (k0_pay1 x0 x1) x4 x5 x6) xs1)) -∗ K ⟨⟩))
      ⊢ wp frame (wpE (defs₀ (F := F)) Variants.none c none) E
          (cc0__gcn_body i arg1 harg1 arg2 harg2 arg3 harg3 arg4 harg4 arg5 harg5 arg6 harg6 arg7 harg7 arg8 harg8 arg9 harg9 arg10 harg10 arg11 harg11) K := by
    simp only [cc0__gcn_body_eq_skeleton]; unfold cc0__gcn_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg11.eq_unread hfs1
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]
    · iexists _; isplitr; swap; · iexact HS0
      ipureintro
      refine (View.read_writes_full arg10.view _ inb_S10000x128_S10000x128_0_0 _ _).trans ?_
      exact congrArg₂ k0_pay1 (load_whole harg1 x0 _) (load_whole harg2 x1 _)
    iexists _; isplitr; swap; · iexact HS1
    ipureintro
    refine (read_bands arg11.view _ _ _ _ _ ho1 ho2).trans ?_
    rw [harg11.read_unread]
    have hv : (View.readCov (Val := Elt F) arg10.view [⟨Rect.unit (s := S10000x128) ![0, 0] S10000x128.size inb_S10000x128_S10000x128_0_0,
          k0_pay1 (View.readAt (Elt F) arg1.view (Rect.unit (s := S10000x128) ![0, 0] S10000x128.size inb_S10000x128_S10000x128_0_0).toLoadRect (harg1.unread x0))
            (View.readAt (Elt F) arg2.view (Rect.unit (s := S128x128) ![0, 0] S128x128.size inb_S128x128_S128x128_0_0).toLoadRect (harg2.unread x1))⟩]
        (Rect.unit (s := S10000x128) ![0, 0] S10000x128.size inb_S10000x128_S10000x128_0_0).toLoadRect : Vec F S10000x128 .f32) = k0_pay1 x0 x1 := by
      refine (View.readCov_full arg10.view inb_S10000x128_S10000x128_0_0 inb_S10000x128_S10000x128_0_0 _ _).trans ?_
      exact (congrArg₂ k0_pay1 (load_whole harg1 x0 _) (load_whole harg2 x1 _))
    exact congrArg₂ (fun P Q => bands k P Q xs1)
      (pay3_congr (load_whole harg3 x2 _) hv (load_whole harg6 x5 _) (load_upper harg5 x4 _) (load_whole harg7 x6 _))
      (congrArg k0_pay2 (pay4_congr (load_whole harg4 x3 _) hv (load_whole harg6 x5 _) (load_lower harg5 x4 _) (load_whole harg7 x6 _)))

set_option maxHeartbeats 1000000 in
/-- Another point of the first pass: the first scratch stays, and the second has two bands stored; the output's buffer is left as it was. -/
theorem run_pass1 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S400x64 .f32) (harg9 : arg9.IsWhole) (arg10 : Memref sig .tc .vmem S10000x128 .f32) (harg10 : arg10.IsWhole) (arg11 : Memref sig .tc .vmem S10000x64 .f32) (harg11 : arg11.IsWhole)
    (hc0 : ¬isFirst i) (hc1 : inPass1 i) (hc2 : ¬inPass2 i)
    (x0 : Vec F S10000x128 .f32) (x1 : Vec F S128x128 .f32) (x2 : Vec F S200x10000 .f32) (x3 : Vec F S200x10000 .f32) (x4 : Vec F S400x128 .f32) (x5 : Vec F S1x128 .f32) (x6 : Vec F S128x64 .f32) (x7 : Vec F S1x64 .f32)
    (xs0 : Vec F S10000x128 .f32) (xs1 : Vec F S10000x64 .f32) (k : ℕ) (ho1 : k0_off1 i = ![400 * k, 0]) (ho2 : k0_off2 i = ![400 * k + 200, 0]) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg10 fullShare xs0 ∗ owns (c : Thread nD τ) arg11 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg10 fullShare xs0 ∗ owns (c : Thread nD τ) arg11 fullShare (bands k (bandP x2 xs0 x4 x5 x6) (bandQ x3 xs0 x4 x5 x6) xs1)) -∗ K ⟨⟩))
      ⊢ wp frame (wpE (defs₀ (F := F)) Variants.none c none) E
          (cc0__gcn_body i arg1 harg1 arg2 harg2 arg3 harg3 arg4 harg4 arg5 harg5 arg6 harg6 arg7 harg7 arg8 harg8 arg9 harg9 arg10 harg10 arg11 harg11) K := by
    simp only [cc0__gcn_body_eq_skeleton]; unfold cc0__gcn_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hfs0; obtain rfl := harg11.eq_unread hfs1
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]
    · iexists _; isplitr; · ipureintro; exact harg10.read_unread _
      iexact HS0
    iexists _; isplitr; swap; · iexact HS1
    ipureintro
    refine (read_bands arg11.view _ _ _ _ _ ho1 ho2).trans ?_
    rw [harg11.read_unread]
    exact congrArg₂ (fun P Q => bands k P Q xs1)
      (pay3_congr (load_whole harg3 x2 _) (load_whole harg10 xs0 _) (load_whole harg6 x5 _) (load_upper harg5 x4 _) (load_whole harg7 x6 _))
      (congrArg k0_pay2 (pay4_congr (load_whole harg4 x3 _) (load_whole harg10 xs0 _) (load_whole harg6 x5 _) (load_lower harg5 x4 _) (load_whole harg7 x6 _)))

set_option maxHeartbeats 1000000 in
/-- A point of the second pass: the second scratch stays, and the output's buffer, at anything, ends at the two halves of the result's block. -/
theorem run_pass2 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S400x64 .f32) (harg9 : arg9.IsWhole) (arg10 : Memref sig .tc .vmem S10000x128 .f32) (harg10 : arg10.IsWhole) (arg11 : Memref sig .tc .vmem S10000x64 .f32) (harg11 : arg11.IsWhole)
    (hc0 : ¬isFirst i) (hc1 : ¬inPass1 i) (hc2 : inPass2 i)
    (x0 : Vec F S10000x128 .f32) (x1 : Vec F S128x128 .f32) (x2 : Vec F S200x10000 .f32) (x3 : Vec F S200x10000 .f32) (x4 : Vec F S400x128 .f32) (x5 : Vec F S1x128 .f32) (x6 : Vec F S128x64 .f32) (x7 : Vec F S1x64 .f32)
    (xs1 : Vec F S10000x64 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg11 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (halves (k0_pay5 x2 xs1 x7) (k0_pay6 x3 xs1 x7)) ∗ owns (c : Thread nD τ) arg11 fullShare xs1) -∗ K ⟨⟩))
      ⊢ wp frame (wpE (defs₀ (F := F)) Variants.none c none) E
          (cc0__gcn_body i arg1 harg1 arg2 harg2 arg3 harg3 arg4 harg4 arg5 harg5 arg6 harg6 arg7 harg7 arg8 harg8 arg9 harg9 arg10 harg10 arg11 harg11) K := by
    simp only [cc0__gcn_body_eq_skeleton]; unfold cc0__gcn_body_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg11.eq_unread hfs1
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; swap; · iexact H8
      ipureintro
      refine (read_halves arg9.view _ _ _ _ _).trans ?_
      exact congrArg₂ halves (pay5_congr (load_whole harg3 x2 _) (load_whole harg11 xs1 _) (load_whole harg8 x7 _))
        (pay6_congr (load_whole harg4 x3 _) (load_whole harg11 xs1 _) (load_whole harg8 x7 _))
    iexists _; isplitr; · ipureintro; exact harg11.read_unread _
    iexact HS1

end Cert.Gcn

end
-- ==== Proof.Region.lean ====
/- The launch of the kernel over its grid: what each point leaves, the invariant the two scratch buffers carry from
   point to point, and the run of the whole program with every array's final contents. -/
module

public import proofs.«01_k».proof.Proof.Runs
public import Idealize.ShloMosaic.Lib.Claim

@[expose] public section

set_option maxRecDepth 16384

noncomputable section

namespace Cert.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the scratch buffers and the output hold -/

theorem points : cfg0.N = 50 := N_0

/-- The point of number `n`. -/
abbrev pt (n : ℕ) (h : n < 50) : Fin cfg0.N := ⟨n, lt_of_lt_of_eq h points.symm⟩

/-- The first scratch after the first point: the product of the features and the first layer's weights. -/
def s1 (c : Dev nD) : Vec F S10000x128 .f32 := k0_pay1 (iblk m c 0 (pt 0 (by decide))) (iblk m c 1 (pt 0 (by decide)))

/-- The upper band that point `t` of the first pass stores. -/
def bandPt (c : Dev nD) (t : Fin cfg0.N) : Vec F S200x64 .f32 :=
  bandP (iblk m c 2 t) (s1 m c) (iblk m c 4 t) (iblk m c 5 t) (iblk m c 6 t)

/-- The lower band that point `t` of the first pass stores. -/
def bandQt (c : Dev nD) (t : Fin cfg0.N) : Vec F S200x64 .f32 :=
  bandQ (iblk m c 3 t) (s1 m c) (iblk m c 4 t) (iblk m c 5 t) (iblk m c 6 t)

/-- The second scratch after the first pass: row `r` was stored by point `r / 400`. -/
def s2 (c : Dev nD) : Vec F S10000x64 .f32 := fun y =>
  have hy : (y 0).val < 10000 := (y 0).isLt
  halves (bandPt m c (pt ((y 0).val / 400) (by omega))) (bandQt m c (pt ((y 0).val / 400) (by omega)))
    (ix2 ⟨(y 0).val % 400, Nat.mod_lt _ (by decide)⟩ (y 1))

/-- The block of the result that point `t` of the second pass leaves. -/
def outBlock (c : Dev nD) (t : Fin cfg0.N) : Vec F S400x64 .f32 :=
  halves (k0_pay5 (iblk m c 2 t) (s2 m c) (iblk m c 7 t)) (k0_pay6 (iblk m c 3 t) (s2 m c) (iblk m c 7 t))

/-- Rows stored before point `t` stay right, and point `t` adds its own 400. -/
theorem bands_agree (c : Dev nD) (t : Fin cfg0.N) (ht : t.val < 25) (d : Vec F S10000x64 .f32)
    (hd : ∀ y, (y 0).val < 400 * t.val → d y = s2 m c y) :
    ∀ y, (y 0).val < 400 * (t.val + 1) → bands t.val (bandPt m c t) (bandQt m c t) d y = s2 m c y := by
  intro y hy
  unfold bands
  by_cases hlo : (y 0).val < 400 * t.val
  · rw [dif_neg (by omega), dif_neg (by omega)]; exact hd y hlo
  have hq : (y 0).val / 400 = t.val := by omega
  have ht' : (pt ((y 0).val / 400) (by omega)) = t := Fin.ext hq
  unfold s2 halves
  dsimp only
  rw [ht']
  by_cases hp : (y 0).val < 400 * t.val + 200
  · rw [dif_neg (by omega), dif_pos (by omega), dif_pos (show (y 0).val % 400 < 200 by omega)]
    refine congrArg (bandPt m c t) (funext fun a => Fin.ext ?_)
    fin_cases a
    · show (y 0).val - 400 * t.val = (y 0).val % 400; omega
    · rfl
  · rw [dif_pos (by omega), dif_neg (show ¬(y 0).val % 400 < 200 by omega)]
    refine congrArg (bandQt m c t) (funext fun a => Fin.ext ?_)
    fin_cases a
    · show (y 0).val - (400 * t.val + 200) = (y 0).val % 400 - 200; omega
    · rfl

/-! ## The invariant -/

/-- The two scratch operands. -/
abbrev sc0 : Memref sig .tc .vmem S10000x128 .f32 := Memref.whole cc0_scratch0
abbrev sc1 : Memref sig .tc .vmem S10000x64 .f32 := Memref.whole cc0_scratch1

/-- Before point `n`: nothing is known at the first; later the first scratch holds `s1`, the second agrees with `s2` on the
    rows stored so far. -/
def carried (c : Dev nD) : ℕ → sProp 𝕄
  | 0 => Pipeline.ΦA spec0 c
  | n + 1 => iprop((owns (c : Thread nD τ) sc0 fullShare (s1 m c)
      ∗ (∃ d, ⌜∀ y, (y 0).val < 400 * (n + 1) → d y = s2 m c y⌝ ∗ owns (c : Thread nD τ) sc1 fullShare d)) ∗ (∃ r, prngReg c r))

theorem carried_succ (c : Dev nD) (n : ℕ) :
    carried m c (n + 1) = iprop((owns (c : Thread nD τ) sc0 fullShare (s1 m c)
      ∗ (∃ d, ⌜∀ y, (y 0).val < 400 * (n + 1) → d y = s2 m c y⌝ ∗ owns (c : Thread nD τ) sc1 fullShare d)) ∗ (∃ r, prngReg c r)) := rfl

theorem carried_pos (c : Dev nD) (n : ℕ) (h : n ≠ 0) :
    carried m c n = iprop((owns (c : Thread nD τ) sc0 fullShare (s1 m c)
      ∗ (∃ d, ⌜∀ y, (y 0).val < 400 * n → d y = s2 m c y⌝ ∗ owns (c : Thread nD τ) sc1 fullShare d)) ∗ (∃ r, prngReg c r)) := by
  cases n with
  | zero => exact absurd rfl h
  | succ n => rfl

/-- What the launch hands over, with the scratch buffers as memrefs at anything. -/
theorem handed_eq (c : Dev nD) :
    (Pipeline.ΦA spec0 c : sProp 𝕄)
      = iprop(((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- The proof data: the arrays as the region finds them, the inputs' buffers at their blocks, the output's at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBlock m c t
  Φ t := carried m c t.val
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = outBlock m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem leaves_0 (c : Dev nD) (t : Fin cfg0.N) :
    (dats m 0 c).leavesExact 0 t = owns (c : Thread nD τ) (st0_0 t) fullShare (iblk m c 0 t) := by
  unfold Dat.leavesExact; rw [show cfg0.idle 0 (cfg0.grid.coords t) = false from rfl, after_0]
theorem leaves_1 (c : Dev nD) (t : Fin cfg0.N) :
    (dats m 0 c).leavesExact 1 t = owns (c : Thread nD τ) (st0_1 t) fullShare (iblk m c 1 t) := by
  unfold Dat.leavesExact; rw [show cfg0.idle 1 (cfg0.grid.coords t) = false from rfl, after_1]
theorem leaves_2 (c : Dev nD) (t : Fin cfg0.N) :
    (dats m 0 c).leavesExact 2 t = owns (c : Thread nD τ) (st0_2 t) fullShare (iblk m c 2 t) := by
  unfold Dat.leavesExact; rw [show cfg0.idle 2 (cfg0.grid.coords t) = false from rfl, after_2]
theorem leaves_3 (c : Dev nD) (t : Fin cfg0.N) :
    (dats m 0 c).leavesExact 3 t = owns (c : Thread nD τ) (st0_3 t) fullShare (iblk m c 3 t) := by
  unfold Dat.leavesExact; rw [show cfg0.idle 3 (cfg0.grid.coords t) = false from rfl, after_3]
theorem leaves_4 (c : Dev nD) (t : Fin cfg0.N) :
    (dats m 0 c).leavesExact 4 t = owns (c : Thread nD τ) (st0_4 t) fullShare (iblk m c 4 t) := by
  unfold Dat.leavesExact; rw [show cfg0.idle 4 (cfg0.grid.coords t) = false from rfl, after_4]
theorem leaves_5 (c : Dev nD) (t : Fin cfg0.N) :
    (dats m 0 c).leavesExact 5 t = owns (c : Thread nD τ) (st0_5 t) fullShare (iblk m c 5 t) := by
  unfold Dat.leavesExact; rw [show cfg0.idle 5 (cfg0.grid.coords t) = false from rfl, after_5]
theorem leaves_6 (c : Dev nD) (t : Fin cfg0.N) :
    (dats m 0 c).leavesExact 6 t = owns (c : Thread nD τ) (st0_6 t) fullShare (iblk m c 6 t) := by
  unfold Dat.leavesExact; rw [show cfg0.idle 6 (cfg0.grid.coords t) = false from rfl, after_6]
theorem leaves_7 (c : Dev nD) (t : Fin cfg0.N) :
    (dats m 0 c).leavesExact 7 t = owns (c : Thread nD τ) (st0_7 t) fullShare (iblk m c 7 t) := by
  unfold Dat.leavesExact; rw [show cfg0.idle 7 (cfg0.grid.coords t) = false from rfl, after_7]

/-- In the first pass the output's buffer is neither stored nor written back. -/
theorem rests : ∀ t : Fin cfg0.N, t.val < 25 → cfg0.idle 8 (cfg0.grid.coords t) = true ∧ (cfg0.win 8).flush t = false :=
  (by decide +kernel : ∀ t : Fin grid0.N, t.val < 25 → idle0 8 (grid0.coords t) = true ∧ win0_8.flush t = false)

/-- In the second pass it is stored. -/
theorem works : ∀ t : Fin cfg0.N, 25 ≤ t.val → cfg0.idle 8 (cfg0.grid.coords t) = false :=
  (by decide +kernel : ∀ t : Fin grid0.N, 25 ≤ t.val → idle0 8 (grid0.coords t) = false)

theorem leaves_8_rest (c : Dev nD) (t : Fin cfg0.N) (ht : t.val < 25) :
    (dats m 0 c).leavesExact 8 t = iprop(∃ d, owns (c : Thread nD τ) (st0_8 t) fullShare ((dats m 0 c).before 8 t d)) :=
  (dats m 0 c).leavesExact_idle 8 t (rests t ht).1 (rests t ht).2

theorem leaves_8_work (c : Dev nD) (t : Fin cfg0.N) (ht : 25 ≤ t.val) :
    (dats m 0 c).leavesExact 8 t = owns (c : Thread nD τ) (st0_8 t) fullShare (outBlock m c t) := by
  unfold Dat.leavesExact; rw [works t ht, after_8]

/-! ## The body at a point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4000000 in
/-- The body at any point takes the invariant to the next point and leaves the output's block in the second pass. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl]
  rw [show (dats m 0 c).Φ t.succ = carried m c (t.val + 1) from rfl, carried_succ]
  rw [show (dats m 0 c).Φ t.castSucc = carried m c t.val from rfl]
  rw [leaves_0, leaves_1, leaves_2, leaves_3, leaves_4, leaves_5, leaves_6, leaves_7]
  have hN : t.val < 50 := lt_of_lt_of_eq t.isLt points
  by_cases h1 : t.val < 25
  · rw [leaves_8_rest m c t h1]
    by_cases h0 : t.val = 0
    · have ht0 : t = pt 0 (by decide) := Fin.ext h0
      have hs : k0_pay1 (iblk m c 0 t) (iblk m c 1 t) = s1 m c := by rw [ht0]; rfl
      rw [show carried m c t.val = Pipeline.ΦA spec0 c by rw [h0]; rfl, handed_eq]
      iintro ⟨⟨⟨HS0, ⟨%e1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
      iapply (run_first c (grid0.coords t) _ _ _ _ _ _ _ _ _ _ _ _ _ _ _ _ _ _ _ _ _ _ ((isFirst_iff t).mpr h0) ((inPass1_iff t).mpr h1) (fun h => absurd ((inPass2_iff t).mp h) (by omega))
        (iblk m c 0 t) (iblk m c 1 t) (iblk m c 2 t) (iblk m c 3 t) (iblk m c 4 t) (iblk m c 5 t) (iblk m c 6 t) (iblk m c 7 t) e1 t.val (off1_eq t h1) (off2_eq t h1) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      rw [hs]
      iintro ⟨H0, H1, H2, H3, H4, H5, H6, H7, HS0, HS1⟩
      isplitl [HS0 HS1 Hg]
      · isplitl [HS0 HS1]
        · isplitl [HS0]; · iexact HS0
          iexists _; isplitr
          swap; · iexact HS1
          ipureintro
          exact bands_agree m c t h1 e1 (fun y hy => absurd hy (by omega))
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · rw [carried_pos m c _ h0]
      iintro ⟨⟨⟨HS0, ⟨%e1, %he, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
      iapply (run_pass1 c (grid0.coords t) _ _ _ _ _ _ _ _ _ _ _ _ _ _ _ _ _ _ _ _ _ _ (fun h => h0 ((isFirst_iff t).mp h)) ((inPass1_iff t).mpr h1) (fun h => absurd ((inPass2_iff t).mp h) (by omega))
        (iblk m c 0 t) (iblk m c 1 t) (iblk m c 2 t) (iblk m c 3 t) (iblk m c 4 t) (iblk m c 5 t) (iblk m c 6 t) (iblk m c 7 t) (s1 m c) e1 t.val (off1_eq t h1) (off2_eq t h1) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hg]
      · isplitl [HS0 HS1]
        · isplitl [HS0]; · iexact HS0
          iexists _; isplitr
          swap; · iexact HS1
          ipureintro
          exact bands_agree m c t h1 e1 he
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
  · have h2 : 25 ≤ t.val := by omega
    rw [leaves_8_work m c t h2, carried_pos m c _ (by omega)]
    iintro ⟨⟨⟨HS0, ⟨%e1, %he, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    have hs : e1 = s2 m c := funext fun y => he y (by have : (y 0).val < 10000 := (y 0).isLt; omega)
    rw [hs]
    iapply (run_pass2 c (grid0.coords t) _ _ _ _ _ _ _ _ _ _ _ _ _ _ _ _ _ _ _ _ _ _ (fun h => absurd ((isFirst_iff t).mp h) (by omega)) (fun h => h1 ((inPass1_iff t).mp h)) ((inPass2_iff t).mpr h2)
      (iblk m c 0 t) (iblk m c 1 t) (iblk m c 2 t) (iblk m c 3 t) (iblk m c 4 t) (iblk m c 5 t) (iblk m c 6 t) (iblk m c 7 t) (s2 m c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS1]; · iexact HS1
    iintro ⟨H0, H1, H2, H3, H4, H5, H6, H7, H8, HS1⟩
    isplitl [HS0 HS1 Hg]
    · isplitl [HS0 HS1]
      · isplitl [HS0]; · iexact HS0
        iexists _; isplitr
        swap; · iexact HS1
        ipureintro; exact fun _ _ => rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The body's label at point `t` is the body on the point's staging buffers. -/
theorem row (t : Fin cfg0.N) :
    defs₀ (F := F) .tc cfg0.body (cfg0.bodyArgs t (cfg0.slots t)) = bodyAt0 t := by
  unfold defs₀; rw [Defs.onTc_tc]

/-- The body's triple at every point, as the launch asks for it. -/
theorem obligation (c : Dev nD) : BodyObligation (dats (F := F) m 0 c) (defs₀ (F := F)) Variants.none () Set.univ := fun t => by
  rw [bigSep_W0, bigSep_W0, row]
  exact triple_restated (sound_body m c t) rfl .rfl fun _ => .rfl

/-- The launch hands over the invariant before the first point. -/
theorem enter (c : Dev nD) : Pipeline.ΦA spec0 c ⊢ (dats m 0 c).Φ 0 := Idealize.SL.BI.Entails.refl _

/-- After the last point the invariant gives the launch's resources back. -/
theorem leave (c : Dev nD) : (dats m 0 c).Φ (Fin.last cfg0.N) ⊢ Pipeline.ΦA spec0 c := by
  rw [show (dats m 0 c).Φ (Fin.last cfg0.N) = carried m c cfg0.N from rfl,
    carried_pos m c _ (by rw [points]; decide), handed_eq]
  iintro ⟨⟨HS0, ⟨%d, -, HS1⟩⟩, Hg⟩
  isplitl [HS0 HS1]
  · isplitl [HS0]
    · iexists _; iexact HS0
    iexists _; iexact HS1
  iexact Hg

/-! ## The run -/

set_option backward.isDefEq.respectTransparency.types false in
/-- Every run of the program ends, with every array at its computed contents and every semaphore at zero. -/
theorem run : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hin := enter m) (hout := leave m)

/-- Every run ends with the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.Gcn

end
-- ==== Proof.Twin.lean ====
/-
  Two programs that run the same line of host operations on differently numbered buffers.

  The kernel and the reference draw the dropout mask by the same chain of host operations, but each in its own
  signature: buffer `i` of one is buffer `i + δ` of the other. Here that is a relation between a list of operations
  (one side) and a program (the other side), proved one operation at a time, with no value ever written out.
-/
module

public import Idealize.ShloMosaic.Lib.StableHlo.RunHlo

@[expose] public section

namespace Cert.Twin

open Idealize.SL.Sem Idealize.ShloMosaic Idealize.ShloMosaic.StableHlo

variable {nD : Nat} {τ : Topo} {sA sB : RefSig} {Val : EltTy → Type} {Λ : Labels}

/-- The contents of two buffers agree wherever the first is HBM buffer `i` with `lo ≤ i < n` and the second is HBM buffer
    `i + δ`, both of one type. -/
def Agree (δ lo n : Nat) (VA : Valuation τ sA Val) (VB : Valuation τ sB Val) : Prop :=
  ∀ (T : BufTy) (a : TRef sA T) (b : TRef sB T), a.ref.space = .hbm → b.ref.space = .hbm →
    lo ≤ a.ref.idx.val → a.ref.idx.val < n → b.ref.idx.val = a.ref.idx.val + δ →
    a.ofBuf (VA (Proc.devRef .tc a.ref)) = b.ofBuf (VB (Proc.devRef .tc b.ref))

/-- `a` is HBM buffer `i` on the first side and `b` is HBM buffer `i + δ` on the second. -/
structure At {T : BufTy} (δ i : Nat) (a : TRef sA T) (b : TRef sB T) : Prop where
  spA : a.ref.space = .hbm
  spB : b.ref.space = .hbm
  ixA : a.ref.idx.val = i
  ixB : b.ref.idx.val = i + δ

/-- What one operation of either side does: the second side's operation touches buffers of the TensorCore only, determines
    its result, leaves every HBM buffer numbered below `n + δ`; and agreement below `n` becomes agreement below `n + 1`. -/
structure Step (δ lo n : Nat) (opA : HloOp τ sA Val) (opB : HloOp τ sB Val) : Prop where
  bufs : opB.bufs ⊆ tcRefs τ sB
  fresh : opB.fresh = ∅
  keep : ∀ (V : Valuation τ sB Val) (r : Ref sB .tc), r.space = .hbm → r.idx.val < n + δ →
    opB.result V (Proc.devRef .tc r) = V (Proc.devRef .tc r)
  agree : ∀ (VA : Valuation τ sA Val) (VB : Valuation τ sB Val), Agree δ lo n VA VB →
    Agree δ lo (n + 1) (opA.result VA) (opB.result VB)

/-- The program `p` is a line of host operations that keeps every HBM buffer numbered below `n + δ` and, run beside `opsA`,
    turns agreement below `n` into agreement below `n'`. -/
def Sim (δ lo : Nat) (opsA : List (HloOp τ sA Val)) (p : Prog (TpuEff nD τ sB Val Λ .tc) PUnit) (n n' : Nat) : Prop :=
  ∃ ops : List (HloOp τ sB Val), p = seq ops ∧ (ops.Forall fun op => op.bufs ⊆ tcRefs τ sB) ∧ (∀ op ∈ ops, op.fresh = ∅) ∧
    (∀ (V : Valuation τ sB Val) (r : Ref sB .tc), r.space = .hbm → r.idx.val < n + δ →
      after ops V (Proc.devRef .tc r) = V (Proc.devRef .tc r)) ∧
    ∀ (VA : Valuation τ sA Val) (VB : Valuation τ sB Val), Agree δ lo n VA VB → Agree δ lo n' (after opsA VA) (after ops VB)

/-- The empty line. -/
theorem Sim.nil (δ lo n : Nat) : Sim (nD := nD) (Λ := Λ) δ lo ([] : List (HloOp τ sA Val))
    (pure ⟨⟩ : Prog (TpuEff nD τ sB Val Λ .tc) PUnit) n n :=
  ⟨[], rfl, trivial, fun _ h => (List.not_mem_nil h).elim, fun _ _ _ _ => rfl, fun _ _ h => h⟩

/-- One operation on each side, then the rest. -/
theorem Sim.cons {δ lo n n' : Nat} {opA : HloOp τ sA Val} {opB : HloOp τ sB Val} {opsA : List (HloOp τ sA Val)}
    {k : Prog (TpuEff nD τ sB Val Λ .tc) PUnit} (h : Step δ lo n opA opB) (hk : Sim δ lo opsA k (n + 1) n') :
    Sim δ lo (opA :: opsA) ((hlo rfl opB fun _ => .ret (⟨⟩ : PUnit)) >>= fun _ => k) n n' := by
  obtain ⟨ops, rfl, hS, hf, hkeep, hag⟩ := hk
  refine ⟨opB :: ops, rfl, ?_, ?_, ?_, ?_⟩
  · exact List.forall_iff_forall_mem.2 fun op ho => by
      rcases List.mem_cons.1 ho with rfl | ho
      · exact h.bufs
      · exact List.forall_iff_forall_mem.1 hS op ho
  · intro op ho
    rcases List.mem_cons.1 ho with rfl | ho
    · exact h.fresh
    · exact hf op ho
  · intro V r hr hi
    rw [after_cons, hkeep _ r hr (by omega), h.keep V r hr hi]
  · intro VA VB hAB
    rw [after_cons, after_cons]
    exact hag _ _ (h.agree VA VB hAB)

/-- A nested sequence is read from its first operation. -/
theorem Sim.assoc {δ lo n n' : Nat} {opsA : List (HloOp τ sA Val)} {p q r : Prog (TpuEff nD τ sB Val Λ .tc) PUnit}
    (h : Sim δ lo opsA (p >>= fun _ => (q >>= fun _ => r)) n n') :
    Sim δ lo opsA ((p >>= fun _ => q) >>= fun _ => r) n n' := by
  rw [bind_assoc]; exact h

/-- A returned unit in front of the rest is nothing. -/
theorem Sim.skip {δ lo n n' : Nat} {opsA : List (HloOp τ sA Val)} {r : Prog (TpuEff nD τ sB Val Λ .tc) PUnit}
    (h : Sim δ lo opsA r n n') : Sim δ lo opsA ((pure ⟨⟩ : Prog (TpuEff nD τ sB Val Λ .tc) PUnit) >>= fun _ => r) n n' := by
  rw [pure_bind]; exact h

/-- Two references of one space and one number are one reference. -/
theorem ref_eq {sig : RefSig} {r r' : Ref sig .tc} (hs : r.space = .hbm) (hs' : r'.space = .hbm)
    (hi : r.idx.val = r'.idx.val) : r = r' := by
  obtain ⟨sp, i, h⟩ := r
  obtain ⟨sp', i', h'⟩ := r'
  dsimp only at hs hs' hi
  subst hs hs'
  obtain rfl : i = i' := Fin.ext hi
  rfl

/-- Nothing is asked of an empty range. -/
theorem Agree.empty (δ n : Nat) (VA : Valuation τ sA Val) (VB : Valuation τ sB Val) : Agree δ n n VA VB :=
  fun _ _ _ _ _ hl hi _ => absurd hi (by omega)

/-- Agreement on one more buffer. -/
theorem Agree.extend {δ lo n : Nat} {VA : Valuation τ sA Val} {VB : Valuation τ sB Val} {Ty : BufTy} {yA : TRef sA Ty}
    {yB : TRef sB Ty} (h : Agree δ lo n VA VB) (hy : At δ n yA yB)
    (hv : yA.ofBuf (VA (Proc.devRef .tc yA.ref)) = yB.ofBuf (VB (Proc.devRef .tc yB.ref))) : Agree δ lo (n + 1) VA VB := by
  intro T c c' hs hs' hl hi hi'
  rcases Nat.lt_succ_iff_lt_or_eq.1 hi with hlt | heq
  · exact h T c c' hs hs' hl hlt hi'
  · have e : c.ref = yA.ref := ref_eq hs hy.spA (by rw [heq, hy.ixA])
    have e' : c'.ref = yB.ref := ref_eq hs' hy.spB (by rw [hi', heq, hy.ixB])
    have hT : T = Ty := by rw [← c.ty_eq, ← yA.ty_eq, e]
    subst hT
    obtain rfl : c = yA := by cases c; cases yA; dsimp only at e; subst e; rfl
    obtain rfl : c' = yB := by cases c'; cases yB; dsimp only at e'; subst e'; rfl
    exact hv

/-- The step of two operations that write one buffer each, buffer `n` and buffer `n + δ`, with equal values. -/
theorem Step.of {δ lo n : Nat} {opA : HloOp τ sA Val} {opB : HloOp τ sB Val} {Ty : BufTy} {yA : TRef sA Ty} {yB : TRef sB Ty}
    (hy : At δ n yA yB) (hwA : opA.writes = {Proc.devRef .tc yA.ref}) (hwB : opB.writes = {Proc.devRef .tc yB.ref})
    (hb : opB.bufs ⊆ tcRefs τ sB) (hf : opB.fresh = ∅)
    (hv : ∀ (VA : Valuation τ sA Val) (VB : Valuation τ sB Val), Agree δ lo n VA VB →
      yA.ofBuf (opA.result VA (Proc.devRef .tc yA.ref)) = yB.ofBuf (opB.result VB (Proc.devRef .tc yB.ref))) :
    Step δ lo n opA opB := by
  have hkA : ∀ (V : Valuation τ sA Val) (r : Ref sA .tc), r.space = .hbm → r.idx.val < n →
      opA.result V (Proc.devRef .tc r) = V (Proc.devRef .tc r) := fun V r hr hi =>
    opA.result_of_not_mem V fun hm => by
      rw [hwA, Finset.mem_singleton] at hm
      have := Proc.devRef_injective _ hm
      subst this
      have := hy.ixA
      omega
  have hkB : ∀ (V : Valuation τ sB Val) (r : Ref sB .tc), r.space = .hbm → r.idx.val < n + δ →
      opB.result V (Proc.devRef .tc r) = V (Proc.devRef .tc r) := fun V r hr hi =>
    opB.result_of_not_mem V fun hm => by
      rw [hwB, Finset.mem_singleton] at hm
      have := Proc.devRef_injective _ hm
      subst this
      have := hy.ixB
      omega
  refine ⟨hb, hf, hkB, fun VA VB hAB T c c' hs hs' hl hi hi' => ?_⟩
  rcases Nat.lt_succ_iff_lt_or_eq.1 hi with hlt | heq
  · rw [hkA VA _ hs hlt, hkB VB _ hs' (by omega)]
    exact hAB T c c' hs hs' hl hlt hi'
  · have e : c.ref = yA.ref := ref_eq hs hy.spA (by rw [heq, hy.ixA])
    have e' : c'.ref = yB.ref := ref_eq hs' hy.spB (by rw [hi', heq, hy.ixB])
    have hT : T = Ty := by rw [← c.ty_eq, ← yA.ty_eq, e]
    subst hT
    obtain rfl : c = yA := by cases c; cases yA; dsimp only at e; subst e; rfl
    obtain rfl : c' = yB := by cases c'; cases yB; dsimp only at e'; subst e'; rfl
    exact hv VA VB hAB

/-- A constant on both sides. -/
theorem Step.nullary {δ lo n : Nat} {Ty : BufTy} {yA : TRef sA Ty} {yB : TRef sB Ty} (v : Ty.Contents Val) (hy : At δ n yA yB) :
    Step (τ := τ) δ lo n (TRef.nullary yA v) (TRef.nullary yB v) :=
  .of hy rfl rfl (nullary_bufs_sub ..) rfl fun VA VB _ => by
    rw [nullary_result, nullary_result]
    simp only [cast_cast, cast_eq]

/-- A one-operand operation on both sides. -/
theorem Step.unary {δ lo n i : Nat} {Tx Ty : BufTy} {xA : TRef sA Tx} {xB : TRef sB Tx} {yA : TRef sA Ty} {yB : TRef sB Ty}
    (f : Tx.Contents Val → Ty.Contents Val) (hy : At δ n yA yB) (hx : At δ i xA xB) (hl : lo ≤ i) (hi : i < n) :
    Step (τ := τ) δ lo n (TRef.unary xA yA f) (TRef.unary xB yB f) :=
  .of hy rfl rfl (unary_bufs_sub ..) rfl fun VA VB h => by
    rw [unary_result, unary_result]
    simp only [cast_cast, cast_eq]
    have e := h Tx xA xB hx.spA hx.spB (by rw [hx.ixA]; exact hl) (by rw [hx.ixA]; exact hi) (by rw [hx.ixA, hx.ixB])
    exact congrArg f e

/-- A two-operand operation on both sides. -/
theorem Step.binary {δ lo n i j : Nat} {Ta Tb Ty : BufTy} {aA : TRef sA Ta} {aB : TRef sB Ta} {bA : TRef sA Tb} {bB : TRef sB Tb}
    {yA : TRef sA Ty} {yB : TRef sB Ty} (f : Ta.Contents Val → Tb.Contents Val → Ty.Contents Val) (hy : At δ n yA yB)
    (ha : At δ i aA aB) (hl : lo ≤ i) (hi : i < n) (hb : At δ j bA bB) (hl' : lo ≤ j) (hj : j < n) :
    Step (τ := τ) δ lo n (TRef.binary aA bA yA f) (TRef.binary aB bB yB f) :=
  .of hy rfl rfl (binary_bufs_sub ..) rfl fun VA VB h => by
    rw [binary_result, binary_result]
    simp only [cast_cast, cast_eq]
    have e := h Ta aA aB ha.spA ha.spB (by rw [ha.ixA]; exact hl) (by rw [ha.ixA]; exact hi) (by rw [ha.ixA, ha.ixB])
    have e' := h Tb bA bB hb.spA hb.spB (by rw [hb.ixA]; exact hl') (by rw [hb.ixA]; exact hj) (by rw [hb.ixA, hb.ixB])
    exact congrArg₂ f e e'

/-- What a reshape leaves in its result's buffer, at the values' types. -/
theorem reshape_value {sig : RefSig} {Tx Ty : BufTy} (x : TRef sig Tx) (y : TRef sig Ty) (he : Tx.elt = Ty.elt)
    (hn : Tx.shape.ShapeCasts Ty.shape) (V : Valuation τ sig Val) :
    y.ofBuf ((TRef.reshape x y he hn : HloOp τ sig Val).result V (Proc.devRef .tc y.ref))
      = fun i => he ▸ shapeCast Ty.shape (x.ofBuf (V (Proc.devRef .tc x.ref))) hn i := by
  rw [reshape_result]
  obtain ⟨rx, rfl, -, -⟩ := x
  obtain ⟨ry, rfl, -, -⟩ := y
  rfl

/-- A reshape on both sides. -/
theorem Step.reshape {δ lo n i : Nat} {Tx Ty : BufTy} {xA : TRef sA Tx} {xB : TRef sB Tx} {yA : TRef sA Ty} {yB : TRef sB Ty}
    (he : Tx.elt = Ty.elt) (hn : Tx.shape.ShapeCasts Ty.shape) (hy : At δ n yA yB) (hx : At δ i xA xB) (hl : lo ≤ i) (hi : i < n) :
    Step (τ := τ) (Val := Val) δ lo n (TRef.reshape xA yA he hn) (TRef.reshape xB yB he hn) :=
  .of hy rfl rfl (reshape_bufs_sub ..) rfl fun VA VB h => by
    rw [reshape_value, reshape_value]
    have e := h Tx xA xB hx.spA hx.spB (by rw [hx.ixA]; exact hl) (by rw [hx.ixA]; exact hi) (by rw [hx.ixA, hx.ixB])
    rw [e]

end Cert.Twin
-- ==== Proof.Mask.lean ====
/-
  The dropout mask: the kernel's host prefix and the reference draw it by one and the same chain of operations.
-/
module

public import proofs.«01_k».proof.Proof.Twin
public import proofs.«01_k».proof.Proof.Gen.KernelIdeal.Launch
public import proofs.«01_k».proof.Proof.Gen.ReferenceIdeal

@[expose] public section

namespace Cert.Mask

open Idealize.SL.Sem Idealize.ShloMosaic Idealize.ShloMosaic.StableHlo
open Cert.Twin

variable {F : FTy → Type} [FloatOps F]

set_option maxRecDepth 4000 in
set_option maxHeartbeats 4000000 in
/-- The kernel's stretch of operations that draws the keep mask and the reference's call that draws it, side by side: buffer
    `i` of the kernel's program is buffer `i + 5` of the reference's. The stretch starts from the key (buffer 15) and the
    keep probability (buffer 16) and ends with the mask (buffer 282). -/
theorem bernoulli_sim : Sim (nD := Cert.ReferenceIdeal.nD) 5 15
    (Cert.KernelIdeal.Gen.hostOps0_1 : List (HloOp Cert.KernelIdeal.τ Cert.KernelIdeal.sig (Elt F)))
    (Cert.ReferenceIdeal.fn_bernoulli.body (F := F) (.of Cert.ReferenceIdeal.main_v11) (.of Cert.ReferenceIdeal.main_cst)
      Cert.ReferenceIdeal.main_call0) 17 283 := by
  unfold Cert.ReferenceIdeal.fn_bernoulli.body Cert.ReferenceIdeal.fn_uniform.body Cert.ReferenceIdeal.fn_threefry2x32.body
    Cert.ReferenceIdeal.fn_threefry2x32.body_part0 Cert.ReferenceIdeal.fn_threefry2x32.body_part1
    Cert.ReferenceIdeal.fn_threefry2x32.body_part2 Cert.ReferenceIdeal.fn_threefry2x32.body_part3
  unfold Cert.KernelIdeal.Gen.hostOps0_1
  repeat first
    | with_reducible exact Sim.nil ..
    | with_reducible refine Sim.assoc ?_
    | with_reducible refine Sim.skip ?_
    | refine Sim.cons (Step.binary _ ⟨rfl, rfl, rfl, rfl⟩ ⟨rfl, rfl, rfl, rfl⟩ (by decide) (by decide) ⟨rfl, rfl, rfl, rfl⟩ (by decide) (by decide)) ?_
    | refine Sim.cons (Step.unary _ ⟨rfl, rfl, rfl, rfl⟩ ⟨rfl, rfl, rfl, rfl⟩ (by decide) (by decide)) ?_
    | refine Sim.cons (Step.nullary _ ⟨rfl, rfl, rfl, rfl⟩) ?_
    | refine Sim.cons (Step.reshape _ _ ⟨rfl, rfl, rfl, rfl⟩ ⟨rfl, rfl, rfl, rfl⟩ (by decide) (by decide)) ?_

end Cert.Mask
-- ==== Proof.Ref.lean ====
/-
  The reference program: the operations of its main function as one line, its run, and what its result array holds.
-/
module

public import proofs.«01_k».proof.Proof.Mask
public import Idealize.ShloMosaic.Lib.Claim
public import Idealize.ShloMosaic.Lib.Quiescent

@[expose] public section

set_option maxRecDepth 16384

noncomputable section

namespace Cert.Ref

open Idealize.SL.Sem Idealize.ShloMosaic Idealize.ShloMosaic.StableHlo
open Cert.Twin
open Cert.ReferenceIdeal Cert.ReferenceIdeal.Facts₀

variable {F : FTy → Type} [FloatOps F]

/-! ## The line of operations -/

/-- The operations ahead of the mask: the first layer up to its bias, the key and the keep probability. -/
def opsPre : List (HloOp τ sig (Elt F)) :=
  [StableHlo.binary main_arg0 main_arg2 main_v0 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
   StableHlo.binary main_arg1 main_v0 main_v1 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
   StableHlo.unary main_arg3 main_v2 (broadcastInDim S1x128 ![1] bcast_S128_S1x128_1 : (⟨S128, .f32⟩ : BufTy).Contents (Elt F) → (⟨S1x128, .f32⟩ : BufTy).Contents (Elt F)),
   StableHlo.unary main_v2 main_v3 (broadcastInDim S10000x128 ![0, 1] bcast_S1x128_S10000x128_0_1 : (⟨S1x128, .f32⟩ : BufTy).Contents (Elt F) → (⟨S10000x128, .f32⟩ : BufTy).Contents (Elt F)),
   StableHlo.binary main_v1 main_v3 main_v4 (addf : (⟨S10000x128, .f32⟩ : BufTy).Contents (Elt F) → (⟨S10000x128, .f32⟩ : BufTy).Contents (Elt F) → (⟨S10000x128, .f32⟩ : BufTy).Contents (Elt F)),
   StableHlo.nullary main_c (constantI S_ 32 42#32),
   StableHlo.nullary main_c_0 (constantI S_ 32 32#32),
   StableHlo.binary main_c main_c_0 main_v5 (Host.shrui : (⟨S_, .i32⟩ : BufTy).Contents (Elt F) → (⟨S_, .i32⟩ : BufTy).Contents (Elt F) → (⟨S_, .i32⟩ : BufTy).Contents (Elt F)),
   StableHlo.unary main_v5 main_v6 (id : (⟨S_, .i32⟩ : BufTy).Contents (Elt F) → (⟨S_, .i32⟩ : BufTy).Contents (Elt F)),
   StableHlo.unary main_v6 main_v7 (broadcastInDim S1 ![] bcast_S_S1 : (⟨S_, .i32⟩ : BufTy).Contents (Elt F) → (⟨S1, .i32⟩ : BufTy).Contents (Elt F)),
   StableHlo.nullary main_c_1 (constantI S_ 32 4294967295#32),
   StableHlo.binary main_c main_c_1 main_v8 (andi : (⟨S_, .i32⟩ : BufTy).Contents (Elt F) → (⟨S_, .i32⟩ : BufTy).Contents (Elt F) → (⟨S_, .i32⟩ : BufTy).Contents (Elt F)),
   StableHlo.unary main_v8 main_v9 (id : (⟨S_, .i32⟩ : BufTy).Contents (Elt F) → (⟨S_, .i32⟩ : BufTy).Contents (Elt F)),
   StableHlo.unary main_v9 main_v10 (broadcastInDim S1 ![] bcast_S_S1 : (⟨S_, .i32⟩ : BufTy).Contents (Elt F) → (⟨S1, .i32⟩ : BufTy).Contents (Elt F)),
   StableHlo.binary main_v7 main_v10 main_v11 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
   StableHlo.nullary main_cst (constant S_ .f32 0x3F000000#32)]

/-- The dropout of the first layer, from the mask on. -/
def opsDrop : List (HloOp τ sig (Elt F)) :=
  [StableHlo.nullary main_cst_2 (constant S_ .f32 0x3F000000#32),
   StableHlo.unary main_cst_2 main_v13 (broadcastInDim S10000x128 ![] bcast_S_S10000x128 : (⟨S_, .f32⟩ : BufTy).Contents (Elt F) → (⟨S10000x128, .f32⟩ : BufTy).Contents (Elt F)),
   StableHlo.binary main_v4 main_v13 main_v14 (Host.divf : (⟨S10000x128, .f32⟩ : BufTy).Contents (Elt F) → (⟨S10000x128, .f32⟩ : BufTy).Contents (Elt F) → (⟨S10000x128, .f32⟩ : BufTy).Contents (Elt F)),
   StableHlo.nullary main_cst_3 (constant S_ .f32 0x00000000#32),
   StableHlo.TRef.unary (.of main_cst_3) main_call1.v0 id,
   StableHlo.TRef.unary main_call1.v0 main_call1.v1 (broadcastInDim S10000x128 ![] bcast_S_S10000x128),
   StableHlo.TRef.ternary (.of main_v12) (.of main_v14) main_call1.v1 main_call1.v2 select]

/-- The second layer. -/
def opsLayer : List (HloOp τ sig (Elt F)) :=
  [StableHlo.binary main_v15 main_arg4 main_v16 ((fun l r => Host.dotGeneral dot_S10000x128_S128x64_S10000x64_1_0_0_1_n_n none l r) : (⟨S10000x128, .f32⟩ : BufTy).Contents (Elt F) → (⟨S128x64, .f32⟩ : BufTy).Contents (Elt F) → (⟨S10000x64, .f32⟩ : BufTy).Contents (Elt F)),
   StableHlo.binary main_arg1 main_v16 main_v17 ((fun l r => Host.dotGeneral dot_S10000x10000_S10000x64_S10000x64_1_0_0_1_n_n none l r) : (⟨S10000x10000, .f32⟩ : BufTy).Contents (Elt F) → (⟨S10000x64, .f32⟩ : BufTy).Contents (Elt F) → (⟨S10000x64, .f32⟩ : BufTy).Contents (Elt F)),
   StableHlo.unary main_arg5 main_v18 (broadcastInDim S1x64 ![1] bcast_S64_S1x64_1 : (⟨S64, .f32⟩ : BufTy).Contents (Elt F) → (⟨S1x64, .f32⟩ : BufTy).Contents (Elt F)),
   StableHlo.unary main_v18 main_v19 (broadcastInDim S10000x64 ![0, 1] bcast_S1x64_S10000x64_0_1 : (⟨S1x64, .f32⟩ : BufTy).Contents (Elt F) → (⟨S10000x64, .f32⟩ : BufTy).Contents (Elt F)),
   StableHlo.binary main_v17 main_v19 main_v20 (addf : (⟨S10000x64, .f32⟩ : BufTy).Contents (Elt F) → (⟨S10000x64, .f32⟩ : BufTy).Contents (Elt F) → (⟨S10000x64, .f32⟩ : BufTy).Contents (Elt F))]

/-- The logarithm of the softmax of the rows. -/
def opsSoft : List (HloOp τ sig (Elt F)) :=
  [StableHlo.TRef.nullary main_call2.cst (constant S_ .f32 0xFF800000#32),
   StableHlo.TRef.binary (.of main_v20 : TRef sig ⟨S10000x64, .f32⟩) main_call2.cst main_call2.v0 (fun x v => Host.reduce FloatOps.maximumf x v reducesTo_S10000x64_S10000_d1 h_S_),
   StableHlo.TRef.nullary main_call2.cst_0 (constant S_ .f32 0xFF800000#32),
   StableHlo.TRef.unary main_call2.cst_0 main_call2.v1 (broadcastInDim S10000 ![] bcast_S_S10000),
   StableHlo.TRef.binary main_call2.v1 main_call2.v0 main_call2.v2 maximumf,
   StableHlo.TRef.unary main_call2.v2 main_call2.v3 (broadcastInDim S10000x1 ![0] bcast_S10000_S10000x1_0),
   StableHlo.TRef.unary main_call2.v3 main_call2.v4 (broadcastInDim S10000x64 ![0, 1] bcast_S10000x1_S10000x64_0_1),
   StableHlo.TRef.binary (.of main_v20 : TRef sig ⟨S10000x64, .f32⟩) main_call2.v4 main_call2.v5 subf,
   StableHlo.TRef.unary main_call2.v5 main_call2.v6 Host.exp,
   StableHlo.TRef.nullary main_call2.cst_1 (constant S_ .f32 0x00000000#32),
   StableHlo.TRef.binary main_call2.v6 main_call2.cst_1 main_call2.v7 (fun x v => Host.reduceAdd x v reducesTo_S10000x64_S10000_d1 h_S_),
   StableHlo.TRef.unary main_call2.v7 main_call2.v8 (broadcastInDim S10000x1 ![0] bcast_S10000_S10000x1_0),
   StableHlo.TRef.unary main_call2.v8 main_call2.v9 Host.log,
   StableHlo.TRef.unary main_call2.v9 main_call2.v10 (broadcastInDim S10000x64 ![0, 1] bcast_S10000x1_S10000x64_0_1),
   StableHlo.TRef.binary main_call2.v5 main_call2.v10 main_call2.v11 subf]

/-- The reference's main function is one line of operations, the mask's among them; the mask's operations keep the buffers
    below the first of theirs and, beside the kernel's, keep agreement. -/
theorem main_line : ∃ opsB : List (HloOp τ sig (Elt F)),
    (∀ d, main (F := F) d = seq (opsPre ++ (opsB ++ (opsDrop ++ (opsLayer ++ opsSoft))))) ∧
    (opsB.Forall fun op => op.bufs ⊆ tcRefs τ sig) ∧ (∀ op ∈ opsB, op.fresh = ∅) ∧
    (∀ (V : Valuation τ sig (Elt F)) (r : Ref sig .tc), r.space = .hbm → r.idx.val < 17 + 5 →
      after opsB V (Proc.devRef .tc r) = V (Proc.devRef .tc r)) ∧
    ∀ (VA : Valuation Cert.KernelIdeal.τ Cert.KernelIdeal.sig (Elt F)) (VB : Valuation τ sig (Elt F)),
      Agree 5 15 17 VA VB → Agree 5 15 283 (after Cert.KernelIdeal.Gen.hostOps0_1 VA) (after opsB VB) := by
  obtain ⟨opsB, hB, hS, hf, hk, hag⟩ := Cert.Mask.bernoulli_sim (F := F)
  refine ⟨opsB, fun d => ?_, hS, hf, hk, hag⟩
  unfold main
  rw [hB]
  simp only [seq_append, opsPre, opsDrop, opsLayer, opsSoft, seq, fn_where.body, fn_log_softmax.body, bind_assoc, pure_bind]

/-! ## What each stretch computes -/

/-- The first layer before the dropout: `adj @ (x @ w) + b`. -/
def layer1 (x : FVec F S10000x128 .f32) (adj : FVec F S10000x10000 .f32) (w : FVec F S128x128 .f32) (b : FVec F S128 .f32) :
    FVec F S10000x128 .f32 :=
  addf (Host.dotGeneral dot_S10000x10000_S10000x128_S10000x128_1_0_0_1_n_n none adj
      (Host.dotGeneral dot_S10000x128_S128x128_S10000x128_1_0_0_1_n_n none x w))
    (broadcastInDim S10000x128 ![0, 1] bcast_S1x128_S10000x128_0_1 (broadcastInDim S1x128 ![1] bcast_S128_S1x128_1 b))

/-- The dropout: a kept entry over the keep probability, zero for the others. -/
def dropout (k : IVec S10000x128 1) (v : FVec F S10000x128 .f32) : FVec F S10000x128 .f32 :=
  select k (Host.divf v (broadcastInDim S10000x128 ![] bcast_S_S10000x128 (constant S_ .f32 0x3F000000#32)))
    (broadcastInDim S10000x128 ![] bcast_S_S10000x128 (constant S_ .f32 0x00000000#32))

/-- The second layer: `adj @ (h @ w) + b`. -/
def layer2 (h : FVec F S10000x128 .f32) (adj : FVec F S10000x10000 .f32) (w : FVec F S128x64 .f32) (b : FVec F S64 .f32) :
    FVec F S10000x64 .f32 :=
  addf (Host.dotGeneral dot_S10000x10000_S10000x64_S10000x64_1_0_0_1_n_n none adj
      (Host.dotGeneral dot_S10000x128_S128x64_S10000x64_1_0_0_1_n_n none h w))
    (broadcastInDim S10000x64 ![0, 1] bcast_S1x64_S10000x64_0_1 (broadcastInDim S1x64 ![1] bcast_S64_S1x64_1 b))

/-- The largest entry of each row, against minus infinity once more. -/
def rowMax (l : FVec F S10000x64 .f32) : FVec F S10000 .f32 :=
  maximumf (broadcastInDim S10000 ![] bcast_S_S10000 (constant S_ .f32 0xFF800000#32))
    (Host.reduce FloatOps.maximumf l (constant S_ .f32 0xFF800000#32) reducesTo_S10000x64_S10000_d1 h_S_)

/-- The rows less their largest entries. -/
def shifted (l : FVec F S10000x64 .f32) : FVec F S10000x64 .f32 :=
  subf l (broadcastInDim S10000x64 ![0, 1] bcast_S10000x1_S10000x64_0_1
    (broadcastInDim S10000x1 ![0] bcast_S10000_S10000x1_0 (rowMax l)))

/-- The logarithm of the softmax of each row. -/
def logSoftmax (l : FVec F S10000x64 .f32) : FVec F S10000x64 .f32 :=
  subf (shifted l) (broadcastInDim S10000x64 ![0, 1] bcast_S10000x1_S10000x64_0_1
    (Host.log (broadcastInDim S10000x1 ![0] bcast_S10000_S10000x1_0
      (Host.reduceAdd (Host.exp (shifted l)) (constant S_ .f32 0x00000000#32) reducesTo_S10000x64_S10000_d1 h_S_))))

/-- Two lines one after the other. -/
theorem after_two {sig : RefSig} {τ : Topo} {Val : EltTy → Type} (l₁ l₂ : List (HloOp τ sig Val)) (V : Valuation τ sig Val) :
    after (l₁ ++ l₂) V = after l₂ (after l₁ V) := by
  induction l₁ generalizing V with
  | nil => rfl
  | cons op l ih => exact ih _

variable (V : Valuation τ sig (Elt F))

/-- The first stretch leaves the first layer in its buffer. -/
theorem pre_layer1 : after opsPre V (Proc.devRef .tc main_v4)
    = layer1 (V (Proc.devRef .tc main_arg0)) (V (Proc.devRef .tc main_arg1)) (V (Proc.devRef .tc main_arg2))
        (V (Proc.devRef .tc main_arg3)) := by
  unfold opsPre; after_results; rfl

/-- The stretch after the mask leaves the dropout of the first layer in its buffer. -/
theorem drop_value : after opsDrop V (Proc.devRef .tc main_v15)
    = dropout (V (Proc.devRef .tc main_v12)) (V (Proc.devRef .tc main_v4)) := by
  unfold opsDrop; after_results; rfl

/-- The next stretch leaves the second layer in its buffer. -/
theorem layer_value : after opsLayer V (Proc.devRef .tc main_v20)
    = layer2 (V (Proc.devRef .tc main_v15)) (V (Proc.devRef .tc main_arg1)) (V (Proc.devRef .tc main_arg4))
        (V (Proc.devRef .tc main_arg5)) := by
  unfold opsLayer; after_results; rfl

/-- The last stretch leaves the logarithm of the softmax in the result buffer. -/
theorem soft_value : after opsSoft V (Proc.devRef .tc main_v21) = logSoftmax (V (Proc.devRef .tc main_v20)) := by
  unfold opsSoft; after_results; simp only [TRef.ofBuf, TRef.toBuf, cast_cast, cast_eq]; rfl

/-- The buffers of the arguments. -/
def args : List (Ref sig .tc) := [main_arg0, main_arg1, main_arg2, main_arg3, main_arg4, main_arg5]

/-- The first stretch writes no argument. -/
theorem pre_keeps : ∀ r ∈ args, after opsPre V (Proc.devRef .tc r) = V (Proc.devRef .tc r) := by
  intro r hr
  refine after_of_writes_sub (W := [main_v0, main_v1, main_v2, main_v3, main_v4, main_c, main_c_0, main_v5, main_v6, main_v7,
    main_c_1, main_v8, main_v9, main_v10, main_v11, main_cst]) _ _ (forall_writes_sub_of_map rfl) ?_
  revert r; decide

/-- The dropout's stretch writes no argument. -/
theorem drop_keeps : ∀ r ∈ args, after opsDrop V (Proc.devRef .tc r) = V (Proc.devRef .tc r) := by
  intro r hr
  refine after_of_writes_sub (W := [main_cst_2, main_v13, main_v14, main_cst_3, main_call1_v0, main_call1_v1, main_v15]) _ _
    (forall_writes_sub_of_map rfl) ?_
  revert r; decide

/-- The second layer's stretch writes no argument. -/
theorem layer_keeps : ∀ r ∈ args, after opsLayer V (Proc.devRef .tc r) = V (Proc.devRef .tc r) := by
  intro r hr
  refine after_of_writes_sub (W := [main_v16, main_v17, main_v18, main_v19, main_v20]) _ _ (forall_writes_sub_of_map rfl) ?_
  revert r; decide

/-- The last stretch writes no argument. -/
theorem soft_keeps : ∀ r ∈ args, after opsSoft V (Proc.devRef .tc r) = V (Proc.devRef .tc r) := by
  intro r hr
  refine after_of_writes_sub (W := [main_call2_cst, main_call2_v0, main_call2_cst_0, main_call2_v1, main_call2_v2, main_call2_v3,
    main_call2_v4, main_call2_v5, main_call2_v6, main_call2_cst_1, main_call2_v7, main_call2_v8, main_call2_v9, main_call2_v10,
    main_v21]) _ _ (forall_writes_sub_of_map rfl) ?_
  revert r; decide

/-! ## The mask of the two programs -/

/-- Ahead of the mask the two programs hold the same key and the same keep probability. -/
theorem keys_agree (VA : Valuation Cert.KernelIdeal.τ Cert.KernelIdeal.sig (Elt F)) :
    Agree 5 15 17 (after Cert.KernelIdeal.Gen.hostOps0 VA) (after opsPre V) := by
  refine ((Agree.empty 5 15 _ _).extend (Ty := ⟨S2, .i32⟩) (yA := .of Cert.KernelIdeal.main_v6) (yB := .of main_v11)
    ⟨rfl, rfl, rfl, rfl⟩ ?_).extend (Ty := ⟨S_, .f32⟩) (yA := .of Cert.KernelIdeal.main_cst) (yB := .of main_cst)
    ⟨rfl, rfl, rfl, rfl⟩ ?_
  · unfold opsPre Cert.KernelIdeal.Gen.hostOps0; after_results
  · unfold opsPre Cert.KernelIdeal.Gen.hostOps0; after_results

/-- What the kernel's program holds as the mask after drawing it. -/
def kept (VA : Valuation Cert.KernelIdeal.τ Cert.KernelIdeal.sig (Elt F)) : IVec S10000x128 1 :=
  after Cert.KernelIdeal.Gen.hostOps0_1 (after Cert.KernelIdeal.Gen.hostOps0 VA) (Proc.devRef .tc Cert.KernelIdeal.main_v7)

/-! ## The run -/

/-- The reference runs to the two layers with the mask that the kernel's program draws (from any contents), leaves its
    arguments alone and its counters at zero. -/
theorem run (VA : Valuation Cert.KernelIdeal.τ Cert.KernelIdeal.sig (Elt F)) (m : (ℓ : Loc nD τ sig) → Buf (Elt F) ℓ)
    (ρ : Dev nD → PrngReg) :
    θ_run (defs (F := F)) (onTc (τ := τ) (main (F := F))) ⟨m, fun _ => 0, ρ⟩ fun r =>
      (∀ c : Dev nD, r.2.mem ((c.tc : Thread nD τ).loc main_v21)
        = logSoftmax (layer2 (dropout (kept VA)
            (layer1 (m ((c.tc : Thread nD τ).loc main_arg0)) (m ((c.tc : Thread nD τ).loc main_arg1))
              (m ((c.tc : Thread nD τ).loc main_arg2)) (m ((c.tc : Thread nD τ).loc main_arg3))))
            (m ((c.tc : Thread nD τ).loc main_arg1)) (m ((c.tc : Thread nD τ).loc main_arg4)) (m ((c.tc : Thread nD τ).loc main_arg5)))
        ∧ ∀ b ∈ args, r.2.mem ((c.tc : Thread nD τ).loc b) = m ((c.tc : Thread nD τ).loc b))
      ∧ r.2.sem = fun _ => 0 := by
  obtain ⟨opsB, hmain, hS, hf, hk, hag⟩ := main_line (F := F)
  have hkA : ∀ (V : Valuation τ sig (Elt F)), ∀ r ∈ args, after opsB V (Proc.devRef .tc r) = V (Proc.devRef .tc r) := by
    intro V r hr
    refine hk V r ?_ ?_ <;> revert r <;> decide
  refine θ_run_mono (run_hlo defs main hmain (by decide) (by decide) ?_ ?_ m ρ) fun r h => ⟨fun c => ⟨?_, fun b hb => ?_⟩,
    sem_eq_zero_of_no_sems (by decide) r.2⟩
  · simp only [List.forall_append]
    exact ⟨by unfold opsPre; simp, hS, by unfold opsDrop; simp, by unfold opsLayer; simp, by unfold opsSoft; simp⟩
  · intro op ho
    simp only [List.mem_append] at ho
    rcases ho with ho | ho | ho | ho | ho
    · exact List.forall_iff_forall_mem.1 (forall_fresh_of_map (ops := opsPre) rfl) op ho
    · exact hf op ho
    · exact List.forall_iff_forall_mem.1 (forall_fresh_of_map (ops := opsDrop) rfl) op ho
    · exact List.forall_iff_forall_mem.1 (forall_fresh_of_map (ops := opsLayer) rfl) op ho
    · exact List.forall_iff_forall_mem.1 (forall_fresh_of_map (ops := opsSoft) rfl) op ho
  · rw [h c main_v21]
    simp only [after_two]
    have hmask : after opsB (after opsPre (launchContents m c)) (Proc.devRef .tc main_v12) = kept VA :=
      (hag _ _ (keys_agree _ VA) ⟨S10000x128, .i1⟩ (.of Cert.KernelIdeal.main_v7) (.of main_v12) rfl rfl (by decide) (by decide) rfl).symm
    rw [soft_value, layer_value, drop_value, hmask, hk _ main_v4 rfl (by decide), pre_layer1]
    simp only [drop_keeps _ main_arg1 (by decide), drop_keeps _ main_arg4 (by decide), drop_keeps _ main_arg5 (by decide),
      hkA _ main_arg1 (by decide), hkA _ main_arg4 (by decide), hkA _ main_arg5 (by decide),
      pre_keeps _ main_arg1 (by decide), pre_keeps _ main_arg4 (by decide), pre_keeps _ main_arg5 (by decide)]
  · rw [h c b]
    simp only [after_two]
    rw [soft_keeps _ b hb, layer_keeps _ b hb, drop_keeps _ b hb, hkA _ b hb, pre_keeps _ b hb]

end Cert.Ref
-- ==== Proof.Blocks.lean ====
/-
  What the kernel's region reads: the arrays it is handed, and each window's block at a grid point, entry by entry.
-/
module

public import proofs.«01_k».proof.Proof.Region
public import proofs.«01_k».proof.Proof.Ref
public import Idealize.ShloMosaic.Lib.Pipeline.ValueKit.Geometry
public import Idealize.ShloMosaic.Lib.Pointwise

@[expose] public section

set_option maxRecDepth 16384

noncomputable section

namespace Cert.Gcn

open Idealize.ShloMosaic Idealize.ShloMosaic.TcCoe
open Idealize.ShloMosaic.StableHlo (after)
open Cert.KernelIdeal Cert.KernelIdeal.Gen

variable {F : FTy → Type} [FloatOps F]

variable (m : (ℓ : Loc nD τ sig) → Buf (Elt F) ℓ)

/-! ## The arrays -/

/-- Three lines one after the other. -/
theorem after_three (l₁ l₂ l₃ : List (HloOp τ sig (Elt F))) (W : Valuation τ sig (Elt F)) (b : DevRef τ sig) :
    after (List.flatten [l₁, l₂, l₃]) W b = after l₃ (after l₂ (after l₁ W)) b := by
  simp only [List.flatten_cons, List.flatten_nil, List.append_nil, Cert.Ref.after_two]

/-- The contents after the mask has been drawn, before the last six host operations. -/
def drawn (c : Dev nD) : Valuation τ sig (Elt F) := after hostOps0_1 (after hostOps0 fun b => m (c, b))

/-- The region's entry is the last six host operations after the mask's drawing. -/
theorem V_eq (c : Dev nD) (b : Ref sig .tc) : V m c b = after hostOps0_2 (drawn m c) (Proc.devRef .tc b) :=
  after_three hostOps0 hostOps0_1 hostOps0_2 (fun b => m (c, b)) (Proc.devRef .tc b)

section Last

variable (W : Valuation τ sig (Elt F))

/-- The last host operations leave the first bias argument. -/
theorem last_arg3 : after (hostOps0_2 (F := F)) W (Proc.devRef .tc main_arg3) = W (Proc.devRef .tc main_arg3) := by
  unfold hostOps0_2; after_results

/-- The last host operations leave the second bias argument. -/
theorem last_arg5 : after (hostOps0_2 (F := F)) W (Proc.devRef .tc main_arg5) = W (Proc.devRef .tc main_arg5) := by
  unfold hostOps0_2; after_results

/-- The last host operations double the mask's bits. -/
theorem last_mask : after (hostOps0_2 (F := F)) W (Proc.devRef .tc main_v10)
    = mulf (s := S10000x128) (φ := .f32) (uitofp .f32 (W (Proc.devRef .tc main_v7) : IVec S10000x128 1))
      (broadcastInDim S10000x128 ![] bcast_S_S10000x128 (constant (F := F) S_ .f32 0x40000000#32)) := by
  unfold hostOps0_2; after_results

/-- The last host operations reshape the first bias. -/
theorem last_bias1 : after (hostOps0_2 (F := F)) W (Proc.devRef .tc main_v11)
    = shapeCast S1x128 (W (Proc.devRef .tc main_arg3) : Vec F S128 .f32) shapeCasts_S128_S1x128 := by
  unfold hostOps0_2; after_results; try rfl

/-- The last host operations reshape the second bias. -/
theorem last_bias2 : after (hostOps0_2 (F := F)) W (Proc.devRef .tc main_v12)
    = shapeCast S1x64 (W (Proc.devRef .tc main_arg5) : Vec F S64 .f32) shapeCasts_S64_S1x64 := by
  unfold hostOps0_2; after_results; try rfl

end Last

/-- The first bias is still the argument's when the last host operations begin. -/
theorem drawn_arg3 (c : Dev nD) : drawn m c (Proc.devRef .tc main_arg3) = m ((c : Thread nD τ).loc main_arg3) :=
  (last_arg3 (drawn m c)).symm.trans ((V_eq m c main_arg3).symm.trans (V_main_arg3 m c))

/-- The second bias is still the argument's when the last host operations begin. -/
theorem drawn_arg5 (c : Dev nD) : drawn m c (Proc.devRef .tc main_arg5) = m ((c : Thread nD τ).loc main_arg5) :=
  (last_arg5 (drawn m c)).symm.trans ((V_eq m c main_arg5).symm.trans (V_main_arg5 m c))

/-- The mask the region is handed: twice the kept bit. -/
theorem V_mask (c : Dev nD) :
    V m c main_v10 = mulf (s := S10000x128) (φ := .f32) (uitofp .f32 (Cert.Ref.kept (fun b => m (c, b))))
      (broadcastInDim S10000x128 ![] bcast_S_S10000x128 (constant (F := F) S_ .f32 0x40000000#32)) :=
  (V_eq m c main_v10).trans (last_mask (drawn m c))

/-- The first bias as the region is handed it. -/
theorem V_bias1 (c : Dev nD) :
    V m c main_v11 = shapeCast S1x128 (m ((c : Thread nD τ).loc main_arg3) : Vec F S128 .f32) shapeCasts_S128_S1x128 :=
  ((V_eq m c main_v11).trans (last_bias1 (drawn m c))).trans
    (congrArg (fun v : Vec F S128 .f32 => shapeCast S1x128 v shapeCasts_S128_S1x128) (drawn_arg3 m c))

/-- The second bias as the region is handed it. -/
theorem V_bias2 (c : Dev nD) :
    V m c main_v12 = shapeCast S1x64 (m ((c : Thread nD τ).loc main_arg5) : Vec F S64 .f32) shapeCasts_S64_S1x64 :=
  ((V_eq m c main_v12).trans (last_bias2 (drawn m c))).trans
    (congrArg (fun v : Vec F S64 .f32 => shapeCast S1x64 v shapeCasts_S64_S1x64) (drawn_arg5 m c))

/-! ## The windows' indices -/

/-- The features' block never moves. -/
theorem idx0 : ∀ t : Fin cfg0.N, win0_0.index t = ![0, 0] := (by decide +kernel : ∀ t : Fin grid0.N, _)
/-- The first weights' block never moves. -/
theorem idx1 : ∀ t : Fin cfg0.N, win0_1.index t = ![0, 0] := (by decide +kernel : ∀ t : Fin grid0.N, _)
/-- The upper adjacency window is at the even blocks of 200 rows, twice over. -/
theorem idx2 : ∀ t : Fin cfg0.N, win0_2.index t = ![2 * (t.val % 25), 0] := (by decide +kernel : ∀ t : Fin grid0.N, _)
/-- The lower adjacency window is at the odd blocks of 200 rows, twice over. -/
theorem idx3 : ∀ t : Fin cfg0.N, win0_3.index t = ![2 * (t.val % 25) + 1, 0] := (by decide +kernel : ∀ t : Fin grid0.N, _)
/-- The mask's window follows the first pass and then stays. -/
theorem idx4 : ∀ t : Fin cfg0.N, win0_4.index t = ![min t.val 24, 0] := (by decide +kernel : ∀ t : Fin grid0.N, _)
/-- The first bias's block never moves. -/
theorem idx5 : ∀ t : Fin cfg0.N, win0_5.index t = ![0, 0] := (by decide +kernel : ∀ t : Fin grid0.N, _)
/-- The second weights' block never moves. -/
theorem idx6 : ∀ t : Fin cfg0.N, win0_6.index t = ![0, 0] := (by decide +kernel : ∀ t : Fin grid0.N, _)
/-- The second bias's block never moves. -/
theorem idx7 : ∀ t : Fin cfg0.N, win0_7.index t = ![0, 0] := (by decide +kernel : ∀ t : Fin grid0.N, _)
/-- The result's window waits at block 0 and then follows the second pass. -/
theorem idx8 : ∀ t : Fin cfg0.N, win0_8.index t = ![if t.val < 25 then 0 else t.val - 25, 0] :=
  (by decide +kernel : ∀ t : Fin grid0.N, _)

/-! ## The blocks -/

/-- The features, whole at every point. -/
theorem blk0 (c : Dev nD) (t : Fin cfg0.N) (r : Fin 10000) (q : Fin 128) :
    (iblk m c 0 t : Vec F S10000x128 .f32) (ix2 r q) = (m ((c : Thread nD τ).loc main_arg0) : Vec F S10000x128 .f32) (ix2 r q) := by
  blk_simp [iblk]
  rw [V_main_arg0]
  congr 1
  blk_ext [idx0]

/-- The first weights, whole at every point. -/
theorem blk1 (c : Dev nD) (t : Fin cfg0.N) (r : Fin 128) (q : Fin 128) :
    (iblk m c 1 t : Vec F S128x128 .f32) (ix2 r q) = (m ((c : Thread nD τ).loc main_arg2) : Vec F S128x128 .f32) (ix2 r q) := by
  blk_simp [iblk]
  rw [V_main_arg2]
  congr 1
  blk_ext [idx1]

/-- The upper half of the point's 400 rows of the adjacency. -/
theorem blk2 (c : Dev nD) (t : Fin cfg0.N) (r : Fin 200) (k : Fin 10000) (R : Fin 10000)
    (hR : R.val = 400 * (t.val % 25) + r.val) :
    (iblk m c 2 t : Vec F S200x10000 .f32) (ix2 r k) = (m ((c : Thread nD τ).loc main_arg1) : Vec F S10000x10000 .f32) (ix2 R k) := by
  blk_simp [iblk]
  rw [V_main_arg1]
  congr 1
  blk_ext [idx2, hR]

/-- The lower half of the point's 400 rows of the adjacency. -/
theorem blk3 (c : Dev nD) (t : Fin cfg0.N) (r : Fin 200) (k : Fin 10000) (R : Fin 10000)
    (hR : R.val = 400 * (t.val % 25) + 200 + r.val) :
    (iblk m c 3 t : Vec F S200x10000 .f32) (ix2 r k) = (m ((c : Thread nD τ).loc main_arg1) : Vec F S10000x10000 .f32) (ix2 R k) := by
  blk_simp [iblk]
  rw [V_main_arg1]
  congr 1
  blk_ext [idx3, hR]

/-- The mask's rows at a point of the first pass. -/
theorem blk4 (c : Dev nD) (t : Fin cfg0.N) (ht : t.val < 25) (r : Fin 400) (q : Fin 128) (R : Fin 10000)
    (hR : R.val = 400 * t.val + r.val) :
    (iblk m c 4 t : Vec F S400x128 .f32) (ix2 r q) = (V m c main_v10 : Vec F S10000x128 .f32) (ix2 R q) := by
  blk_simp [iblk]
  congr 1
  blk_ext [idx4, hR]

/-- The first bias, whole at every point. -/
theorem blk5 (c : Dev nD) (t : Fin cfg0.N) (r : Fin 1) (q : Fin 128) :
    (iblk m c 5 t : Vec F S1x128 .f32) (ix2 r q) = (V m c main_v11 : Vec F S1x128 .f32) (ix2 r q) := by
  blk_simp [iblk]
  congr 1
  blk_ext [idx5]

/-- The second weights, whole at every point. -/
theorem blk6 (c : Dev nD) (t : Fin cfg0.N) (r : Fin 128) (q : Fin 64) :
    (iblk m c 6 t : Vec F S128x64 .f32) (ix2 r q) = (m ((c : Thread nD τ).loc main_arg4) : Vec F S128x64 .f32) (ix2 r q) := by
  blk_simp [iblk]
  rw [V_main_arg4]
  congr 1
  blk_ext [idx6]

/-- The second bias, whole at every point. -/
theorem blk7 (c : Dev nD) (t : Fin cfg0.N) (r : Fin 1) (q : Fin 64) :
    (iblk m c 7 t : Vec F S1x64 .f32) (ix2 r q) = (V m c main_v12 : Vec F S1x64 .f32) (ix2 r q) := by
  blk_simp [iblk]
  congr 1
  blk_ext [idx7]

end Cert.Gcn
-- ==== Proof.Payload.lean ====
/-
  What the kernel's straight-line arithmetic computes at an index, over the extended reals.
-/
module

public import proofs.«01_k».proof.Proof.Gen.KernelIdeal.Skeleton
public import Idealize.ShloMosaic.Lib.Pointwise
public import Idealize.ShloMosaic.Lib.IdealHost

@[expose] public section

set_option maxRecDepth 16384

noncomputable section

namespace Cert.Gcn

open Idealize.ShloMosaic
open Cert.KernelIdeal Cert.KernelIdeal.Gen
open scoped BigOperators

/-- The first scratch: entry (r, c) is the product's. -/
theorem pay1_apply (x : Vec Ideal S10000x128 .f32) (w : Vec Ideal S128x128 .f32) (r : Fin 10000) (c : Fin 128) :
    k0_pay1 x w (ix2 r c) = ∑ j : Fin 128, x (ix2 r j) * w (ix2 j c) := by
  unfold k0_pay1
  pointwise

/-- A band of the hidden layer times the second weights: from a block `a` of the adjacency's rows, the first scratch `s`, the
    bias `b`, the mask's rows `k` and the weights `w`. -/
def hidden (a : Vec Ideal S200x10000 .f32) (s : Vec Ideal S10000x128 .f32) (b : Vec Ideal S1x128 .f32)
    (k : Vec Ideal S200x128 .f32) (w : Vec Ideal S128x64 .f32) (r : Fin 200) (c : Fin 64) : EReal :=
  ∑ q : Fin 128, ((∑ j : Fin 10000, a (ix2 r j) * s (ix2 j q)) + b (ix2 0 q)) * k (ix2 r q) * w (ix2 q c)

/-- The upper band. -/
theorem pay3_apply (a : Vec Ideal S200x10000 .f32) (s : Vec Ideal S10000x128 .f32) (b : Vec Ideal S1x128 .f32)
    (k : Vec Ideal S200x128 .f32) (w : Vec Ideal S128x64 .f32) (r : Fin 200) (c : Fin 64) :
    k0_pay3 a s b k w (ix2 r c) = hidden a s b k w r c := by
  unfold k0_pay3 hidden
  pointwise

/-- The lower band. -/
theorem pay24_apply (a : Vec Ideal S200x10000 .f32) (s : Vec Ideal S10000x128 .f32) (b : Vec Ideal S1x128 .f32)
    (k : Vec Ideal S200x128 .f32) (w : Vec Ideal S128x64 .f32) (r : Fin 200) (c : Fin 64) :
    k0_pay2 (k0_pay4 a s b k w) (ix2 r c) = hidden a s b k w r c := by
  unfold k0_pay2 k0_pay4 hidden
  pointwise

/-- The logarithm of the softmax of a row `f` as the kernel computes it: the largest entry is added to the logarithm of the
    sum, and the two go from the entry at once. -/
def softK (f : Fin 64 → EReal) (c : Fin 64) : EReal :=
  f c - (Ideal.log (∑ j, Ideal.exp (f j - Finset.univ.fold max (Ideal.ofBits .f32 0xFF800000#32) f))
    + Finset.univ.fold max (Ideal.ofBits .f32 0xFF800000#32) f)

/-- A row of the second layer: from a block `a` of the adjacency's rows, the second scratch `s` and the bias `b`. -/
def logits (a : Vec Ideal S200x10000 .f32) (s : Vec Ideal S10000x64 .f32) (b : Vec Ideal S1x64 .f32) (r : Fin 200)
    (c : Fin 64) : EReal :=
  (∑ j : Fin 10000, a (ix2 r j) * s (ix2 j c)) + b (ix2 0 c)

/-- The upper half of a block of the result. -/
theorem pay5_apply (a : Vec Ideal S200x10000 .f32) (s : Vec Ideal S10000x64 .f32) (b : Vec Ideal S1x64 .f32)
    (r : Fin 200) (c : Fin 64) : k0_pay5 a s b (ix2 r c) = softK (logits a s b r) c := by
  unfold k0_pay5 softK logits
  pointwise

/-- The lower half of a block of the result. -/
theorem pay6_apply (a : Vec Ideal S200x10000 .f32) (s : Vec Ideal S10000x64 .f32) (b : Vec Ideal S1x64 .f32)
    (r : Fin 200) (c : Fin 64) : k0_pay6 a s b (ix2 r c) = softK (logits a s b r) c := by
  unfold k0_pay6 softK logits
  pointwise

end Cert.Gcn
-- ==== Proof.RefValue.lean ====
/-
  What the reference's two layers and its softmax compute at an index, over the extended reals.
-/
module

public import proofs.«01_k».proof.Proof.Ref
public import Idealize.ShloMosaic.Lib.Pointwise
public import Idealize.ShloMosaic.Lib.IdealHost

@[expose] public section

set_option maxRecDepth 16384

noncomputable section

namespace Cert.Ref

open Idealize.ShloMosaic
open Cert.ReferenceIdeal
open scoped BigOperators

/-- The first layer at (r, q). -/
theorem layer1_apply (x : FVec Ideal S10000x128 .f32) (adj : FVec Ideal S10000x10000 .f32) (w : FVec Ideal S128x128 .f32)
    (b : FVec Ideal S128 .f32) (r : Fin 10000) (q : Fin 128) :
    layer1 x adj w b (ix2 r q)
      = (∑ j : Fin 10000, adj (ix2 r j) * ∑ p : Fin 128, x (ix2 j p) * w (ix2 p q)) + b (ix1 q) := by
  unfold layer1
  pointwise

/-- The dropout at (r, q). -/
theorem dropout_apply (k : IVec S10000x128 1) (v : FVec Ideal S10000x128 .f32) (r : Fin 10000) (q : Fin 128) :
    dropout k v (ix2 r q)
      = Scalar.select (k (ix2 r q)) (Ideal.div (v (ix2 r q)) (Ideal.ofBits .f32 0x3F000000#32)) 0 := by
  unfold dropout
  pointwise

/-- The second layer at (r, c). -/
theorem layer2_apply (h : FVec Ideal S10000x128 .f32) (adj : FVec Ideal S10000x10000 .f32) (w : FVec Ideal S128x64 .f32)
    (b : FVec Ideal S64 .f32) (r : Fin 10000) (c : Fin 64) :
    layer2 h adj w b (ix2 r c)
      = (∑ j : Fin 10000, adj (ix2 r j) * ∑ q : Fin 128, h (ix2 j q) * w (ix2 q c)) + b (ix1 c) := by
  unfold layer2
  pointwise

/-- The logarithm of the softmax of a row `f` as the reference computes it: the row less its largest entry, less the logarithm
    of the sum. -/
def softR (f : Fin 64 → EReal) (c : Fin 64) : EReal :=
  f c - max (Ideal.ofBits .f32 0xFF800000#32) (Finset.univ.fold max (Ideal.ofBits .f32 0xFF800000#32) f)
    - Ideal.log (∑ j, Ideal.exp (f j
        - max (Ideal.ofBits .f32 0xFF800000#32) (Finset.univ.fold max (Ideal.ofBits .f32 0xFF800000#32) f)))

/-- The logarithm of the softmax at (r, c). -/
theorem logSoftmax_apply (l : FVec Ideal S10000x64 .f32) (r : Fin 10000) (c : Fin 64) :
    logSoftmax l (ix2 r c) = softR (fun j => l (ix2 r j)) c := by
  unfold logSoftmax shifted rowMax softR
  pointwise

end Cert.Ref
-- ==== Proof.Maths.lean ====
/-
  The mathematics of the two programs over the extended reals: the dropout by a mask of zeros and twos is the dropout by a
  division and a choice; the two ways of taking the logarithm of a softmax agree on a row of real numbers; and sums and
  products of real numbers are real.
-/
module

public import proofs.«01_k».proof.Proof.Payload
public import proofs.«01_k».proof.Proof.RefValue

@[expose] public section

noncomputable section

namespace Cert.Gcn

open Idealize.ShloMosaic
open scoped BigOperators

/-! ## Real values -/

/-- `v` is a real number. -/
def IsReal (v : EReal) : Prop := ∃ r : ℝ, v = (r : EReal)

/-- A sum of two reals is real. -/
theorem IsReal.add {a b : EReal} : IsReal a → IsReal b → IsReal (a + b) := by
  rintro ⟨r, rfl⟩ ⟨s, rfl⟩
  exact ⟨r + s, (EReal.coe_add r s).symm⟩

/-- A product of two reals is real. -/
theorem IsReal.mul {a b : EReal} : IsReal a → IsReal b → IsReal (a * b) := by
  rintro ⟨r, rfl⟩ ⟨s, rfl⟩
  exact ⟨r * s, (EReal.coe_mul r s).symm⟩

/-- A finite sum of reals is real. -/
theorem IsReal.sum {ι : Type} [Fintype ι] {f : ι → EReal} (h : ∀ i, IsReal (f i)) : IsReal (∑ i, f i) := by
  classical
  refine Finset.sum_induction f IsReal (fun a b => IsReal.add) ⟨0, EReal.coe_zero.symm⟩ fun i _ => h i

/-! ## The literals -/

/-- The word of one half. -/
theorem half_word : Ideal.ofBits .f32 0x3F000000#32 = (((1 : ℝ) / 2 : ℝ) : EReal) := by
  simp [Ideal.ofBits, Ideal.ieee]
  rw [← EReal.coe_mul]
  norm_num

/-- The word of two. -/
theorem two_word : Ideal.ofBits .f32 0x40000000#32 = ((2 : ℝ) : EReal) := by
  simp [Ideal.ofBits, Ideal.ieee]
  rw [← EReal.coe_mul]
  norm_num

/-- The word of minus infinity. -/
theorem bot_word : Ideal.ofBits .f32 0xFF800000#32 = ⊥ := by
  simp [Ideal.ofBits, Ideal.ieee]

/-! ## The dropout -/

/-- A value times twice a mask's bit is the value over one half where the bit is one, and zero where it is zero. -/
theorem mask_eq (k : BitVec 1) (v : EReal) :
    v * (((k.toNat : ℝ) : EReal) * Ideal.ofBits .f32 0x40000000#32)
      = Scalar.select k (Ideal.div v (Ideal.ofBits .f32 0x3F000000#32)) 0 := by
  rw [two_word, half_word]
  have hk : k = 0#1 ∨ k = 1#1 := by revert k; decide
  rcases hk with rfl | rfl
  · simp [Scalar.select]
  · have h : (((1 : ℝ) / 2 : ℝ) : EReal) ≠ 0 := by
      rw [← EReal.coe_zero]
      exact fun e => by norm_num [EReal.coe_eq_coe_iff] at e
    have h1 : (1#1 : BitVec 1) = 1 := rfl
    simp only [Scalar.select, Ideal.div, if_neg h, if_pos h1]
    rw [← EReal.coe_inv, ← EReal.coe_mul]
    congr 2
    norm_num

/-- A dropout of a real value is real. -/
theorem IsReal.mask {v : EReal} (k : BitVec 1) (h : IsReal v) :
    IsReal (Scalar.select k (Ideal.div v (Ideal.ofBits .f32 0x3F000000#32)) 0) := by
  rw [← mask_eq, two_word]
  exact h.mul (IsReal.mul ⟨_, rfl⟩ ⟨_, rfl⟩)

/-! ## The logarithm of the softmax -/

/-- The largest of a row of real numbers is real. -/
theorem top_real (g : Fin 64 → ℝ) : IsReal (Finset.univ.fold max (⊥ : EReal) fun j => (g j : EReal)) := by
  have h0 : ((g 0 : ℝ) : EReal) ≤ Finset.univ.fold max (⊥ : EReal) fun j => (g j : EReal) :=
    (Finset.le_fold_max _).2 (Or.inr ⟨0, Finset.mem_univ _, le_rfl⟩)
  have h1 : (Finset.univ.fold max (⊥ : EReal) fun j => (g j : EReal)) < ⊤ :=
    (Finset.fold_max_lt _).2 ⟨bot_lt_top, fun j _ => EReal.coe_lt_top _⟩
  exact ⟨_, (EReal.coe_toReal h1.ne (lt_of_lt_of_le (EReal.bot_lt_coe _) h0).ne').symm⟩

/-- On a row of real numbers the two logarithms of the softmax agree. -/
theorem soft_eq (f : Fin 64 → EReal) (hf : ∀ j, IsReal (f j)) (c : Fin 64) : softK f c = Cert.Ref.softR f c := by
  choose g hg using hf
  obtain rfl : f = fun j => (g j : EReal) := funext hg
  obtain ⟨μ, hμ⟩ := top_real g
  have hs : ∀ j, Ideal.exp ((g j : EReal) - (μ : EReal)) = ((Real.exp (g j - μ) : ℝ) : EReal) := fun j => by
    rw [← EReal.coe_sub]; rfl
  have hsum : (∑ j, Ideal.exp ((g j : EReal) - (μ : EReal))) = ((∑ j, Real.exp (g j - μ) : ℝ) : EReal) := by
    simp only [hs]
    exact (map_sum (⟨⟨Real.toEReal, EReal.coe_zero⟩, EReal.coe_add⟩ : ℝ →+ EReal) _ _).symm
  have hpos : 0 < ∑ j, Real.exp (g j - μ) := Finset.sum_pos (fun j _ => Real.exp_pos _) ⟨0, Finset.mem_univ _⟩
  have hlog : Ideal.log ((∑ j, Real.exp (g j - μ) : ℝ) : EReal) = ((Real.log (∑ j, Real.exp (g j - μ)) : ℝ) : EReal) :=
    if_neg (not_le.2 hpos)
  unfold softK Cert.Ref.softR
  rw [bot_word, hμ, max_eq_right bot_le, hsum, hlog, ← EReal.coe_add, ← EReal.coe_sub, ← EReal.coe_sub, ← EReal.coe_sub]
  congr 1
  ring

end Cert.Gcn
-- ==== Proof.Value.lean ====
/-
  The kernel's result array over the extended reals, entry by entry: the logarithm of the softmax, in the kernel's form, of the
  reference's second layer.
-/
module

public import proofs.«01_k».proof.Proof.Blocks
public import proofs.«01_k».proof.Proof.Maths

@[expose] public section

set_option maxRecDepth 16384

noncomputable section

namespace Cert.Gcn

open Idealize.ShloMosaic Idealize.ShloMosaic.TcCoe
open Cert.KernelIdeal Cert.KernelIdeal.Gen
open scoped BigOperators

variable (m : (ℓ : Loc nD τ sig) → Buf (Elt Ideal) ℓ)

/-! ## The arguments and the reference's layers of them -/

/-- The features. -/
abbrev feats (c : Dev nD) : Vec Ideal S10000x128 .f32 := m ((c : Thread nD τ).loc main_arg0)
/-- The adjacency. -/
abbrev adja (c : Dev nD) : Vec Ideal S10000x10000 .f32 := m ((c : Thread nD τ).loc main_arg1)
/-- The first weights. -/
abbrev wts1 (c : Dev nD) : Vec Ideal S128x128 .f32 := m ((c : Thread nD τ).loc main_arg2)
/-- The first bias. -/
abbrev bias1 (c : Dev nD) : Vec Ideal S128 .f32 := m ((c : Thread nD τ).loc main_arg3)
/-- The second weights. -/
abbrev wts2 (c : Dev nD) : Vec Ideal S128x64 .f32 := m ((c : Thread nD τ).loc main_arg4)
/-- The second bias. -/
abbrev bias2 (c : Dev nD) : Vec Ideal S64 .f32 := m ((c : Thread nD τ).loc main_arg5)
/-- The kept entries of the hidden layer. -/
abbrev keeps (c : Dev nD) : IVec S10000x128 1 := Cert.Ref.kept (F := Ideal) fun b => m (c, b)

/-- The hidden layer after the dropout. -/
def hid (c : Dev nD) : Vec Ideal S10000x128 .f32 :=
  Cert.Ref.dropout (F := Ideal) (keeps m c) (Cert.Ref.layer1 (F := Ideal) (feats m c) (adja m c) (wts1 m c) (bias1 m c))

/-- The second layer. -/
def lay2 (c : Dev nD) : Vec Ideal S10000x64 .f32 :=
  Cert.Ref.layer2 (F := Ideal) (hid m c) (adja m c) (wts2 m c) (bias2 m c)

/-! ## The arrays made by the host -/

/-- The mask at an entry. -/
theorem mask_read (c : Dev nD) (R : Fin 10000) (q : Fin 128) :
    (V m c main_v10 : Vec Ideal S10000x128 .f32) (ix2 R q)
      = (((keeps m c (ix2 R q)).toNat : ℝ) : EReal) * Ideal.ofBits .f32 0x40000000#32 := by
  rw [V_mask]
  rfl

/-- The first bias at an entry. -/
theorem bias1_read (c : Dev nD) (q : Fin 128) :
    (V m c main_v11 : Vec Ideal S1x128 .f32) (ix2 0 q) = bias1 m c (ix1 q) := by
  rw [V_bias1]
  pointwise

/-- The second bias at an entry. -/
theorem bias2_read (c : Dev nD) (q : Fin 64) :
    (V m c main_v12 : Vec Ideal S1x64 .f32) (ix2 0 q) = bias2 m c (ix1 q) := by
  rw [V_bias2]
  pointwise

/-! ## The scratch buffers -/

/-- The first scratch at an entry. -/
theorem s1_apply (c : Dev nD) (j : Fin 10000) (q : Fin 128) :
    s1 m c (ix2 j q) = ∑ p : Fin 128, feats m c (ix2 j p) * wts1 m c (ix2 p q) := by
  refine (pay1_apply _ _ j q).trans (Finset.sum_congr rfl fun p _ => ?_)
  rw [blk0, blk1]

/-- The upper half of a block at an entry. -/
theorem upper_apply (x : Vec Ideal S400x128 .f32) (r : Fin 200) (q : Fin 128) (r' : Fin 400) (h : r'.val = r.val) :
    upper x (ix2 r q) = x (ix2 r' q) := by
  rw [show r' = ⟨r.val, by omega⟩ from Fin.ext h]
  rfl

/-- The lower half of a block at an entry. -/
theorem lower_apply (x : Vec Ideal S400x128 .f32) (r : Fin 200) (q : Fin 128) (r' : Fin 400) (h : r'.val = 200 + r.val) :
    lower x (ix2 r q) = x (ix2 r' q) := by
  rw [show r' = ⟨200 + r.val, by omega⟩ from Fin.ext h]
  rfl

/-- A band is the hidden layer's row times the second weights, when its blocks hold that row. -/
theorem hidden_eq (c : Dev nD) (t : Fin cfg0.N) (a : Vec Ideal S200x10000 .f32) (k : Vec Ideal S200x128 .f32) (r : Fin 200)
    (z : Fin 64) (R : Fin 10000) (ha : ∀ j, a (ix2 r j) = adja m c (ix2 R j))
    (hk : ∀ q, k (ix2 r q) = (V m c main_v10 : Vec Ideal S10000x128 .f32) (ix2 R q)) :
    hidden a (s1 m c) (iblk m c 5 t) k (iblk m c 6 t) r z = ∑ q : Fin 128, hid m c (ix2 R q) * wts2 m c (ix2 q z) := by
  unfold hidden
  refine Finset.sum_congr rfl fun q _ => ?_
  rw [hk, mask_read, mask_eq, blk5, bias1_read, blk6]
  congr 1
  unfold hid
  rw [Cert.Ref.dropout_apply, Cert.Ref.layer1_apply]
  simp only [ha, s1_apply]

/-- The second scratch at an entry. -/
theorem s2_apply (c : Dev nD) (R : Fin 10000) (z : Fin 64) :
    s2 m c (ix2 R z) = ∑ q : Fin 128, hid m c (ix2 R q) * wts2 m c (ix2 q z) := by
  have hR := R.isLt
  have hm : (R.val / 400) % 25 = R.val / 400 := Nat.mod_eq_of_lt (by omega)
  unfold s2 halves
  dsimp only
  by_cases h : R.val % 400 < 200
  · refine (dif_pos h).trans ?_
    refine (pay3_apply _ _ _ _ _ ⟨R.val % 400, h⟩ z).trans (hidden_eq m c _ _ _ _ z R (fun j => ?_) fun q => ?_)
    · exact blk2 m c _ _ j R (show R.val = 400 * ((R.val / 400) % 25) + R.val % 400 by omega)
    · rw [upper_apply _ _ _ ⟨R.val % 400, by omega⟩ rfl]
      exact blk4 m c _ (show R.val / 400 < 25 by omega) _ q R (show R.val = 400 * (R.val / 400) + R.val % 400 by omega)
  · refine (dif_neg h).trans ?_
    refine (pay24_apply _ _ _ _ _ ⟨R.val % 400 - 200, by omega⟩ z).trans (hidden_eq m c _ _ _ _ z R (fun j => ?_) fun q => ?_)
    · exact blk3 m c _ _ j R (show R.val = 400 * ((R.val / 400) % 25) + 200 + (R.val % 400 - 200) by omega)
    · rw [lower_apply _ _ _ ⟨R.val % 400, by omega⟩ (show R.val % 400 = 200 + (R.val % 400 - 200) by omega)]
      exact blk4 m c _ (show R.val / 400 < 25 by omega) _ q R (show R.val = 400 * (R.val / 400) + R.val % 400 by omega)

/-! ## The result -/

/-- A row of a block's logits is the second layer's row, when its block of the adjacency holds that row. -/
theorem logits_eq (c : Dev nD) (t : Fin cfg0.N) (a : Vec Ideal S200x10000 .f32) (r : Fin 200) (R : Fin 10000)
    (ha : ∀ j, a (ix2 r j) = adja m c (ix2 R j)) :
    logits a (s2 m c) (iblk m c 7 t) r = fun z => lay2 m c (ix2 R z) := by
  funext z
  unfold logits lay2
  rw [blk7, bias2_read, Cert.Ref.layer2_apply]
  simp only [ha, s2_apply]

/-- The block of the result that a point of the second pass leaves, at an entry. -/
theorem outBlock_apply (c : Dev nD) (t : Fin cfg0.N) (y : S400x64.Idx) (R : Fin 10000)
    (hR : R.val = 400 * (t.val % 25) + (y 0).val) :
    outBlock m c t y = softK (fun z => lay2 m c (ix2 R z)) (y 1) := by
  have hy : (y 0).val < 400 := (y 0).isLt
  unfold outBlock halves
  by_cases h : (y 0).val < 200
  · refine (dif_pos h).trans ?_
    refine (pay5_apply _ _ _ ⟨(y 0).val, h⟩ (y 1)).trans ?_
    rw [logits_eq m c t _ _ R fun j => blk2 m c t _ j R (by dsimp only; omega)]
  · refine (dif_neg h).trans ?_
    refine (pay6_apply _ _ _ ⟨(y 0).val - 200, by omega⟩ (y 1)).trans ?_
    rw [logits_eq m c t _ _ R fun j => blk3 m c t _ j R (by dsimp only; omega)]

/-- The result: each row the logarithm of the softmax of the second layer's row. -/
def result (c : Dev nD) : Vec Ideal S10000x64 .f32 := fun i => softK (fun z => lay2 m c (ix2 (i 0) z)) (i 1)

/-- Only the second pass writes the result back. -/
theorem flush_late : ∀ t : Fin cfg0.N, win0_8.flush t = true → 25 ≤ t.val :=
  (by decide +kernel : ∀ t : Fin grid0.N, win0_8.flush t = true → 25 ≤ t.val)

/-- The result array after the run. -/
theorem final (c : Dev nD) : (dats m 0 c).arrAt 8 cfg0.N = result m c := by
  refine (dats m 0 c).arrAt_eq_of_covers 8 _ (by decide +kernel) fun t hf y => ?_
  have ht := flush_late t hf
  have hN : t.val < 50 := lt_of_lt_of_eq t.isLt points
  have hy : (y 0).val < 400 := (y 0).isLt
  have e0 : ((((cfg0.win 8).blk t).view.emb y) 0).val = 400 * (t.val - 25) + (y 0).val := by
    blk_simp [idx8]
    rw [if_neg (by omega)]
    omega
  have e1 : ((((cfg0.win 8).blk t).view.emb y) 1).val = (y 1).val := by
    blk_simp [idx8]
  generalize ((cfg0.win 8).blk t).view.emb y = z at e0 e1
  blk_simp
  rw [after_8]
  refine (outBlock_apply m c t y (z 0) (by omega)).trans ?_
  exact congrArg (softK _) (Fin.ext e1.symm)

end Cert.Gcn
-- ==== Proof.Finite.lean ====
/-
  What the precondition says: every entry of the six argument arrays is a real number.
-/
module

public import proofs.«01_k».proof.Proof.Maths
public import proofs.«01_k».proof.Proof.Gen.Pre_finite
public import proofs.«01_k».proof.Defs
public import Idealize.ShloMosaic.Lib.ReduceAll

@[expose] public section

noncomputable section

namespace Cert.Gcn

open Idealize.ShloMosaic
open Cert.Pre_finite Cert.Pre_finite.Facts

/-- A scalar has one index. -/
instance : Subsingleton S_.Idx := ⟨fun a b => funext fun k => k.elim0⟩

/-- The word of plus infinity. -/
theorem top_word : Ideal.ofBits .f32 0x7F800000#32 = ⊤ := by
  simp [Ideal.ofBits, Ideal.ieee]

/-- An extended real whose magnitude is less than plus infinity is a real number. -/
theorem real_of_abs_lt {v : EReal} (h : Ideal.cmp .olt (max v (-v)) (Ideal.ofBits .f32 0x7F800000#32) = 1#1) :
    IsReal v := by
  rw [top_word] at h
  induction v with
  | bot => exact absurd h (by simp [Ideal.cmp])
  | top => exact absurd h (by simp [Ideal.cmp])
  | coe r => exact ⟨r, rfl⟩

/-- The conjunction over all of an array's entries is one only where every entry is real. -/
theorem real_of_all {s : Shape} {axes : List (Fin s.rank)} (x : FVec Ideal s .f32) (bc : S_.BroadcastsInDim s (![] : Fin 0 → Fin s.rank))
    (h : s.ReducesTo axes S_) (hu : 0 < S_.numel) (j : S_.Idx)
    (e : Host.reduce IntOp.andi (cmpf .olt (Host.absf x) (broadcastInDim s ![] bc (constant S_ .f32 0x7F800000#32)))
      (constantI S_ 1 1#1) h hu j = 1#1) (i : s.Idx) : IsReal (x i) :=
  real_of_abs_lt (Host.reduce_andi_all _ _ _ _ _ e i)

/-- The precondition: every entry of every argument is real. -/
theorem reals_of_fn [Cert.Pre_finite.Facts] (x : FVec Ideal S10000x128 .f32) (adj : FVec Ideal S10000x10000 .f32)
    (w1 : FVec Ideal S128x128 .f32) (b1 : FVec Ideal S128 .f32) (w2 : FVec Ideal S128x64 .f32) (b2 : FVec Ideal S64 .f32)
    (e : Cert.Pre_finite.fn (F := Ideal) x adj w1 b1 w2 b2 = fun _ => 1#1) :
    (∀ i, IsReal (x i)) ∧ (∀ i, IsReal (adj i)) ∧ (∀ i, IsReal (w1 i)) ∧ (∀ i, IsReal (b1 i)) ∧ (∀ i, IsReal (w2 i))
      ∧ (∀ i, IsReal (b2 i)) := by
  have j : S_.Idx := fun k => k.elim0
  have e := congrFun e j
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨real_of_all _ _ _ _ _ h0, real_of_all _ _ _ _ _ h1, real_of_all _ _ _ _ _ h2, real_of_all _ _ _ _ _ h3,
    real_of_all _ _ _ _ _ h4, real_of_all _ _ _ _ _ h5⟩

end Cert.Gcn
-- ==== Proof.Same.lean ====
/- The kernel and its idealization are the same program text over different numbers. Over the same numbers they are equal,
   and the frame of the one is the frame of the other. -/
module

public import proofs.«01_k».proof.Proof.Region
public import proofs.«01_k».proof.Proof.Gen.Kernel.Frame

@[expose] public section

set_option maxRecDepth 100000
set_option maxHeartbeats 20000000

noncomputable section

namespace Cert.Gcn

open Idealize.ShloMosaic Idealize.ShloMosaic.TcCoe Idealize.SL.Sem

variable {F : FTy → Type} [FloatOps F]

local notation "Ops" => List (HloOp Cert.Kernel.τ Cert.Kernel.sig (Elt F))

/-- The bodies agree at every point and staging slot. -/
theorem same_bodies : Cert.Kernel.defs₀ (F := F) = Cert.KernelIdeal.defs₀ (F := F) := by
  unfold Cert.Kernel.defs₀ Cert.KernelIdeal.defs₀
  refine congrArg Defs.onTc ?_
  funext l a
  match l, a with
  | 0, (t, s) => exact rfl

/-- So do the tables with the pipeline's labels added. -/
theorem same_defs : Cert.Kernel.defs (F := F) = Cert.KernelIdeal.defs (F := F) :=
  congrArg (Pipeline.defs (Cert.Kernel.pcfgs (F := F))) same_bodies

/-- The host operations before the launch agree, stretch by stretch. -/
theorem same_ops : (Cert.Kernel.Gen.hostOps0 : Ops) = Cert.KernelIdeal.Gen.hostOps0 := rfl
theorem same_ops_1 : (Cert.Kernel.Gen.hostOps0_1 : Ops) = Cert.KernelIdeal.Gen.hostOps0_1 := rfl
theorem same_ops_2 : (Cert.Kernel.Gen.hostOps0_2 : Ops) = Cert.KernelIdeal.Gen.hostOps0_2 := rfl

/-- The programs agree: three stretches of host operations, then the launch. -/
theorem same_main : Cert.Kernel.main (F := F) = Cert.KernelIdeal.main (F := F) := by
  funext c
  refine (Cert.Kernel.Gen.main_chain c).trans (Eq.trans ?_ (Cert.KernelIdeal.Gen.main_chain c).symm)
  rw [same_ops, same_ops_1, same_ops_2]
  exact rfl

variable (m : (ℓ : Loc Cert.Kernel.nD Cert.Kernel.τ Cert.Kernel.sig) → Buf (Elt F) ℓ) (ρ : Dev Cert.Kernel.nD → PrngReg)

/-- What holds of every run of the idealization holds of every run of the kernel over the same numbers. -/
theorem run_same (Q : _ → Prop)
    (h : θ_run (Cert.KernelIdeal.defs (F := F)) (onTc (τ := Cert.KernelIdeal.τ) (Cert.KernelIdeal.main (F := F))) ⟨m, fun _ => 0, ρ⟩ Q) :
    θ_run (Cert.Kernel.defs (F := F)) (onTc (τ := Cert.Kernel.τ) (Cert.Kernel.main (F := F))) ⟨m, fun _ => 0, ρ⟩ Q :=
  (congrArg₂ (fun d p => θ_run d (onTc (τ := Cert.Kernel.τ) p) ⟨m, fun _ => 0, ρ⟩ Q) same_defs same_main).mpr h

end Cert.Gcn

end
-- ==== Proof.Join.lean ====
/-
  The two programs' results are equal on arguments whose entries are real numbers, and the parts of the claim.
-/
module

public import proofs.«01_k».proof.Proof.Value
public import proofs.«01_k».proof.Proof.Finite
public import proofs.«01_k».proof.Proof.Same
public import Idealize.ShloMosaic.Adequacy
public import Idealize.ShloMosaic.Init

@[expose] public section

set_option maxRecDepth 16384

noncomputable section

namespace Cert.Gcn

open Idealize.ShloMosaic Idealize.ShloMosaic.TcCoe Idealize.SL.Sem
open scoped BigOperators

attribute [local instance] Cert.Kernel.Gen.facts Cert.KernelIdeal.Gen.facts Cert.ReferenceIdeal.Gen.facts Cert.Pre_finite.Gen.facts

section Values

open Cert.KernelIdeal Cert.KernelIdeal.Gen

variable (m : (ℓ : Loc nD τ sig) → Buf (Elt Ideal) ℓ)

/-- On real arguments every entry of the second layer is real. -/
theorem lay2_real (hm : Pre_KernelIdeal_finite m) (c : Dev nD) (R : Fin 10000) (z : Fin 64) : IsReal (lay2 m c (ix2 R z)) := by
  obtain ⟨h0, h1, h2, h3, h4, h5⟩ := reals_of_fn _ _ _ _ _ _ (hm c)
  unfold lay2
  rw [Cert.Ref.layer2_apply]
  refine IsReal.add (IsReal.sum fun j => IsReal.mul (h1 _) (IsReal.sum fun q => IsReal.mul ?_ (h4 _))) (h5 _)
  unfold hid
  rw [Cert.Ref.dropout_apply]
  refine IsReal.mask _ ?_
  rw [Cert.Ref.layer1_apply]
  exact IsReal.add (IsReal.sum fun k => IsReal.mul (h1 _) (IsReal.sum fun p => IsReal.mul (h0 _) (h2 _))) (h3 _)

/-- On real arguments the kernel's result is the reference's. -/
theorem result_eq (hm : Pre_KernelIdeal_finite m) (c : Dev nD) :
    result m c = Cert.Ref.logSoftmax (F := Ideal) (lay2 m c) := by
  funext i
  obtain ⟨r, z, rfl⟩ : ∃ (r : Fin 10000) (z : Fin 64), i = ix2 r z := ⟨i 0, i 1, ValueIdx.eq_ix2 i⟩
  refine (soft_eq (fun z => lay2 m c (ix2 r z)) (fun z => lay2_real m hm c r z) z).trans ?_
  exact (Cert.Ref.logSoftmax_apply (lay2 m c) r z).symm

end Values

/-- The kernel's frame. -/
theorem frame_kernel : quiescent_Kernel := fun m g _ => run_same m g _ (frame m g)

/-- The idealized kernel's frame. -/
theorem frame_ideal : quiescent_KernelIdeal := fun m g _ => frame m g

/-- The idealized kernel's frame under the precondition. -/
theorem frame_ideal_finite : quiescent_KernelIdeal_pre_finite := fun m g _ => frame m g

/-- The idealized reference's frame. -/
theorem frame_reference : quiescent_ReferenceIdeal := fun m g _ =>
  (θ_run Cert.ReferenceIdeal.defs _ _).mono (fun r h => ⟨fun c =>
    ⟨(h.1 c).2 _ (by decide), (h.1 c).2 _ (by decide), (h.1 c).2 _ (by decide), (h.1 c).2 _ (by decide),
      (h.1 c).2 _ (by decide), (h.1 c).2 _ (by decide)⟩, h.2⟩) (Cert.Ref.run (F := Ideal) (fun _ _ => default) m g)

/-- The idealized reference's frame under the precondition. -/
theorem frame_reference_finite : quiescent_ReferenceIdeal_pre_finite := fun m g _ => frame_reference m g trivial

/-- On real arguments the idealized kernel computes what the idealized reference computes. -/
theorem algebraic : algebraic_KernelIdeal_ReferenceIdeal_pre_finite := by
  intro m g m' g' hm hargs
  refine ⟨fun c => result m c, ?_, ?_⟩
  · refine (θ_run Cert.KernelIdeal.defs _ _).mono (fun r h c => ?_) (θ_run_and (frame m g) (run m g))
    exact ⟨(h.2.1.out_eq c 8).trans (final m c), h.1.1 c⟩
  · refine (θ_run Cert.ReferenceIdeal.defs _ _).mono (fun r h c => ?_)
      (Cert.Ref.run (F := Ideal) (fun b => m ((0 : Dev Cert.KernelIdeal.nD), b)) m' g')
    refine ⟨?_, (h.1 c).2 _ (by decide), (h.1 c).2 _ (by decide), (h.1 c).2 _ (by decide), (h.1 c).2 _ (by decide),
      (h.1 c).2 _ (by decide), (h.1 c).2 _ (by decide)⟩
    obtain rfl : c = 0 := Subsingleton.elim _ _
    obtain ⟨e0, e1, e2, e3, e4, e5⟩ := hargs 0
    refine (h.1 0).1.trans ?_
    rw [e0, e1, e2, e3, e4, e5]
    exact (result_eq m hm 0).symm

end Cert.Gcn

end
-- ==== Proof.lean ====
/- The claim of this certificate, put together: the three frames, the idealization (which rewrote nothing) and the equality of
   the idealized kernel's and the idealized reference's results on real arguments. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Join
public import Idealize.ShloMosaic.Adequacy
public import Idealize.ShloMosaic.Init

@[expose] public section

noncomputable section

namespace Cert.Proof

open Idealize.ShloMosaic Idealize.SL.Sem Cert.Kernel

/-- The three frames, the idealization's claim and the equality of the two results on real arguments. -/
theorem claim : Cert.Claim := ⟨Cert.Kernel.Gen.facts, Cert.KernelIdeal.Gen.facts, Cert.ReferenceIdeal.Gen.facts, Cert.Pre_finite.Gen.facts,
  Cert.Gcn.frame_kernel, Cert.Gcn.frame_ideal, Cert.Gcn.frame_ideal_finite, Cert.Gcn.frame_reference,
  Cert.Gcn.frame_reference_finite, trivial, Cert.Gcn.algebraic⟩

end Cert.Proof

end
